-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S_ : Shape := ⟨0, ![]⟩

class Facts : Prop where
  bcast_S_S16384x4096 : S_.BroadcastsInDim S16384x4096 (![] : Fin 0 → Fin S16384x4096.rank)
  bcast_S_S64x4096 : S_.BroadcastsInDim S64x4096 (![] : Fin 0 → Fin S64x4096.rank)

variable [Facts]

def fn {F : FTy → Type} [FloatOps F] (main_arg0 : FVec F S16384x4096 .f32) (main_arg1 : FVec F S64x4096 .f32) : IVec S16384x4096 1 × IVec S64x4096 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_v3 : FVec F S64x4096 .f32 := Host.absf main_arg1
  let main_cst_0 : FVec F S_ .f32 := constant S_ .f32 0x7F800000#32
  let main_v4 : FVec F S64x4096 .f32 := broadcastInDim S64x4096 ![] bcast_S_S64x4096 main_cst_0
  let main_v5 : IVec S64x4096 1 := cmpf .olt main_v3 main_v4
  (main_v2, main_v5)
-- ==== Kernel.lean ====
abbrev S16384x4096 : Shape := ⟨2, ![16384, 4096]⟩
abbrev S64x4096 : Shape := ⟨2, ![64, 4096]⟩
abbrev S8x16384 : Shape := ⟨2, ![8, 16384]⟩
abbrev S1x16384 : Shape := ⟨2, ![1, 16384]⟩
abbrev S1x1 : Shape := ⟨2, ![1, 1]⟩
abbrev S1024x4096 : Shape := ⟨2, ![1024, 4096]⟩
abbrev S8x1024 : Shape := ⟨2, ![8, 1024]⟩
abbrev S1x1024 : Shape := ⟨2, ![1, 1024]⟩
abbrev S64x1 : Shape := ⟨2, ![64, 1]⟩
abbrev S64x1024 : Shape := ⟨2, ![64, 1024]⟩
abbrev S1024 : Shape := ⟨1, ![1024]⟩
abbrev S64 : Shape := ⟨1, ![64]⟩
abbrev S1 : Shape := ⟨1, ![1]⟩
abbrev S16384x8 : Shape := ⟨2, ![16384, 8]⟩
abbrev S16384 : Shape := ⟨1, ![16384]⟩
abbrev S_ : Shape := ⟨0, ![]⟩

abbrev nBuf : Space → Nat
  | .hbm => 10
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S8x16384, .i32⟩
  | .hbm, ⟨3, _⟩ => ⟨S8x16384, .f32⟩
  | .hbm, ⟨4, _⟩ => ⟨S1x16384, .i32⟩
  | .hbm, ⟨5, _⟩ => ⟨S1x1, .f32⟩
  | .hbm, ⟨6, _⟩ => ⟨S16384x8, .i32⟩
  | .hbm, ⟨7, _⟩ => ⟨S16384x8, .f32⟩
  | .hbm, ⟨8, _⟩ => ⟨S16384, .i32⟩
  | .hbm, ⟨9, _⟩ => ⟨S_, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S8x1024, .i32⟩
  | .local _ .vmem, ⟨4, _⟩ => ⟨S8x1024, .i32⟩
  | .local _ .vmem, ⟨5, _⟩ => ⟨S8x1024, .f32⟩
  | .local _ .vmem, ⟨6, _⟩ => ⟨S8x1024, .f32⟩
  | .local _ .vmem, ⟨7, _⟩ => ⟨S1x1024, .i32⟩
  | .local _ .vmem, ⟨8, _⟩ => ⟨S1x1024, .i32⟩
  | .local _ .vmem, ⟨9, _⟩ => ⟨S1x1, .f32⟩
  | .local _ .vmem, ⟨10, _⟩ => ⟨S64x1, .f32⟩
  | .local _ .vmem, ⟨11, _⟩ => ⟨S64x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v229 : BitVec 1 := Scalar.cmpi .eq arg0 c15_i32
  let v230 : BitVec 32 := Scalar.extui v229
  let c0_i32_63 : BitVec 32 := 0#32
  let v231 : BitVec 1 := Scalar.cmpi .ne v230 c0_i32_63
  v231

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x4096 : Shape := ⟨2, ![16384, 4096]⟩
abbrev S64x4096 : Shape := ⟨2, ![64, 4096]⟩
abbrev S4096x64 : Shape := ⟨2, ![4096, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S8 : Shape := ⟨1, ![8]⟩
abbrev S1x8 : Shape := ⟨2, ![1, 8]⟩
abbrev S64 : Shape := ⟨1, ![64]⟩

abbrev nBuf : Space → Nat
  | .hbm => 101
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | .hbm, ⟨18, _⟩ => ⟨S_, .f32⟩
  | .hbm, ⟨19, _⟩ => ⟨S16384, .f32⟩
  | .hbm, ⟨20, _⟩ => ⟨S_, .i32⟩
  | .hbm, ⟨21, _⟩ => ⟨S16384, .i32⟩
  | .hbm, ⟨22, _⟩ => ⟨S_, .f32⟩
  | .hbm, ⟨23, _⟩ => ⟨S16384, .f32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S_, .f32⟩
  | .hbm, ⟨28, _⟩ => ⟨S16384, .f32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384x8, .f32⟩
  | .hbm, ⟨43, _⟩ => ⟨S16384x8, .i32⟩
  | .hbm, ⟨44, _⟩ => ⟨S8, .i32⟩
  | .hbm, ⟨45, _⟩ => ⟨S1x8, .i32⟩
  | .hbm, ⟨46, _⟩ => ⟨S16384x1, .i32⟩
  | .hbm, ⟨47, _⟩ => ⟨S16384x8, .i32⟩
  | .hbm, ⟨48, _⟩ => ⟨S16384x8, .i32⟩
  | .hbm, ⟨49, _⟩ => ⟨S16384x8, .i1⟩
  | .hbm, ⟨50, _⟩ => ⟨S16384x8, .f32⟩
  | .hbm, ⟨51, _⟩ => ⟨S16384x8, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x8, .f32⟩
  | .hbm, ⟨60, _⟩ => ⟨S16384x8, .f32⟩
  | .hbm, ⟨61, _⟩ => ⟨S_, .i32⟩
  | .hbm, ⟨62, _⟩ => ⟨S_, .i32⟩
  | .hbm, ⟨63, _⟩ => ⟨S16384x8, .i32⟩
  | .hbm, ⟨64, _⟩ => ⟨S16384x8, .i32⟩
  | .hbm, ⟨65, _⟩ => ⟨S16384x64, .i32⟩
  | .hbm, ⟨66, _⟩ => ⟨S_, .f32⟩
  | .hbm, ⟨67, _⟩ => ⟨S_, .i32⟩
  | .hbm, ⟨68, _⟩ => ⟨S16384, .f32⟩
  | .hbm, ⟨69, _⟩ => ⟨S16384, .i32⟩
  | .hbm, ⟨70, _⟩ => ⟨S_, .i32⟩
  | .hbm, ⟨71, _⟩ => ⟨S64, .i32⟩
  | .hbm, ⟨72, _⟩ => ⟨S_, .i32⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S16384, .i32⟩
  | .hbm, ⟨83, _⟩ => ⟨S16384x1, .i32⟩
  | .hbm, ⟨84, _⟩ => ⟨S_, .i32⟩
  | .hbm, ⟨85, _⟩ => ⟨S16384, .i32⟩
  | .hbm, ⟨86, _⟩ => ⟨S64, .i32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S64, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_c_8 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v23 : Ref sig .tc := ⟨.hbm, 41, rfl⟩
abbrev main_values : Ref sig .tc := ⟨.hbm, 42, rfl⟩
abbrev main_indices : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_call3_v0 : Ref sig .tc := ⟨.hbm, 56, rfl⟩
abbrev main_call3_v1 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_call4_v0 : Ref sig .tc := ⟨.hbm, 62, rfl⟩
abbrev main_call4_v1 : Ref sig .tc := ⟨.hbm, 63, rfl⟩
abbrev main_v37 : Ref sig .tc := ⟨.hbm, 64, rfl⟩
abbrev main_call5_v0 : Ref sig .tc := ⟨.hbm, 65, rfl⟩
abbrev main_call5_cst : Ref sig .tc := ⟨.hbm, 66, rfl⟩
abbrev main_call5_c : Ref sig .tc := ⟨.hbm, 67, rfl⟩
abbrev main_call5_v1_0 : Ref sig .tc := ⟨.hbm, 68, rfl⟩
abbrev main_v38 : Ref sig .tc := ⟨.hbm, 69, rfl⟩
abbrev main_c_12 : Ref sig .tc := ⟨.hbm, 70, rfl⟩
abbrev main_v39 : Ref sig .tc := ⟨.hbm, 71, rfl⟩
abbrev main_c_13 : Ref sig .tc := ⟨.hbm, 72, rfl⟩
abbrev main_call6_v0 : Ref sig .tc := ⟨.hbm, 73, rfl⟩
abbrev main_call6_v1 : Ref sig .tc := ⟨.hbm, 74, rfl⟩
abbrev main_v40 : Ref sig .tc := ⟨.hbm, 75, rfl⟩
abbrev main_c_14 : Ref sig .tc := ⟨.hbm, 76, rfl⟩
abbrev main_v41 : Ref sig .tc := ⟨.hbm, 77, rfl⟩
abbrev main_v42 : Ref sig .tc := ⟨.hbm, 78, rfl⟩
abbrev main_c_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_16 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_17 : Ref sig .tc := ⟨.hbm, 88, rfl⟩
abbrev main_v50 : Ref sig .tc := ⟨.hbm, 89, rfl⟩
abbrev main_v51 : Ref sig .tc := ⟨.hbm, 90, rfl⟩
abbrev main_cst_18 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_cst_21 : Ref sig .tc := ⟨.hbm, 99, rfl⟩
abbrev main_v57 : Ref sig .tc := ⟨.hbm, 100, rfl⟩

abbrev nD : Nat := 1
abbrev τ : Topo := Topo.v7x

variable {F : FTy → Type} [FloatOps F]
-- ==== Proof.Select.lean ====
/-
  Picking the greatest of `n` extended reals again and again: the first position of the greatest, set to −∞, and again.
  The positions picked are those that a stable sort, greatest first, puts first; the first of them is the arg-max's.
-/
module

public import Idealize.ShloMosaic.Lib.SortPrefix
public import Mathlib.Data.EReal.Basic

@[expose] public section

noncomputable section

namespace Cert.Select

open Idealize.ShloMosaic

variable {n : ℕ}

/-- The positions holding the greatest value. -/
def best (q : Fin (n + 1) → EReal) : Finset (Fin (n + 1)) := Finset.univ.filter fun e => q e = Finset.univ.sup q

/-- There is one. -/
theorem best_nonempty (q : Fin (n + 1) → EReal) : (best q).Nonempty := by
  obtain ⟨e, -, he⟩ := Finset.exists_mem_eq_sup Finset.univ Finset.univ_nonempty q
  exact ⟨e, by simp [best, he]⟩

/-- The first position holding the greatest value. -/
def pick (q : Fin (n + 1) → EReal) : Fin (n + 1) := (best q).min' (best_nonempty q)

/-- It holds the greatest value. -/
theorem pick_eq (q : Fin (n + 1) → EReal) : q (pick q) = Finset.univ.sup q :=
  (Finset.mem_filter.mp ((best q).min'_mem (best_nonempty q))).2

/-- No value is above its. -/
theorem le_pick (q : Fin (n + 1) → EReal) (e : Fin (n + 1)) : q e ≤ q (pick q) := by
  rw [pick_eq q]; exact Finset.le_sup (Finset.mem_univ e)

/-- It comes before every other such position. -/
theorem pick_le (q : Fin (n + 1) → EReal) (e : Fin (n + 1)) (h : q e = q (pick q)) : pick q ≤ e :=
  (best q).min'_le e (by simp [best, h, pick_eq q])

/-- A position that no value is above and that comes before all its equals is the pick. -/
theorem eq_pick (q : Fin (n + 1) → EReal) (e : Fin (n + 1)) (h : ∀ i, q i < q e ∨ (q i = q e ∧ e ≤ i)) : e = pick q := by
  rcases h (pick q) with h' | ⟨h', h''⟩
  · exact absurd (le_pick q e) (not_le.mpr h')
  · exact le_antisymm h'' (pick_le q e h'.symm)

/-- The values with one position at −∞. -/
def drop (q : Fin (n + 1) → EReal) (i : Fin (n + 1)) : Fin (n + 1) → EReal := fun e => if e = i then ⊥ else q e

/-- The values before round `r`: the picks of the rounds before it at −∞. -/
def work (p : Fin (n + 1) → EReal) : ℕ → Fin (n + 1) → EReal
  | 0 => p
  | r + 1 => drop (work p r) (pick (work p r))

/-- The pick of round `r`. -/
def sel (p : Fin (n + 1) → EReal) (r : ℕ) : Fin (n + 1) := pick (work p r)

/-- Before round `r` a position holds −∞ if it was picked, else its own value. -/
theorem work_apply (p : Fin (n + 1) → EReal) (r : ℕ) (e : Fin (n + 1)) :
    work p r e = if ∃ j < r, sel p j = e then ⊥ else p e := by
  induction r with
  | zero => simp [work]
  | succ r ih =>
    rw [work, drop, ih]
    by_cases h : e = pick (work p r)
    · rw [if_pos h, if_pos ⟨r, Nat.lt_succ_self r, h.symm⟩]
    · rw [if_neg h]
      congr 1
      refine propext ⟨fun ⟨j, hj, he⟩ => ⟨j, Nat.lt_succ_of_lt hj, he⟩, fun ⟨j, hj, he⟩ => ⟨j, ?_, he⟩⟩
      refine lt_of_le_of_ne (Nat.lt_succ_iff.mp hj) ?_
      rintro rfl
      exact h he.symm

variable (p : Fin (n + 1) → EReal) (hp : ∀ e, ⊥ < p e)
include hp

/-- A position not yet picked holds its own value. -/
theorem work_of_not (r : ℕ) (e : Fin (n + 1)) (h : ∀ j < r, sel p j ≠ e) : work p r e = p e := by
  rw [work_apply, if_neg (by rintro ⟨j, hj, he⟩; exact h j hj he)]

/-- While positions are left, a round picks a new one. -/
theorem sel_new (r : ℕ) (hr : r < n + 1) (j : ℕ) (hj : j < r) : sel p j ≠ sel p r := by
  intro he
  have hne : ∃ e, ∀ i < r, sel p i ≠ e := by
    by_contra hall
    push Not at hall
    have hsub : (Finset.univ : Finset (Fin (n + 1))) ⊆ (Finset.range r).image (sel p) := fun e _ => by
      obtain ⟨i, hi, he⟩ := hall e
      exact Finset.mem_image.mpr ⟨i, Finset.mem_range.mpr hi, he⟩
    have hc := (Finset.card_le_card hsub).trans Finset.card_image_le
    rw [Finset.card_univ, Fintype.card_fin, Finset.card_range] at hc
    omega
  obtain ⟨e, hnew⟩ := hne
  have h1 := le_pick (work p r) e
  rw [work_of_not p hp r e hnew] at h1
  have h2 : work p r (pick (work p r)) = ⊥ := by
    rw [work_apply, if_pos ⟨j, hj, he⟩]
  rw [h2] at h1
  exact absurd (hp e) (not_lt.mpr h1)

/-- A round's greatest value is the picked position's own. -/
theorem work_sel (r : ℕ) (hr : r < n + 1) : work p r (sel p r) = p (sel p r) :=
  work_of_not p hp r _ fun j hj => sel_new p hp r hr j hj

omit hp in
/-- `a` comes before `b`, greatest first and equals in order. -/
def before (a b : Fin (n + 1)) : Bool := decide (p b < p a) || (decide (p a = p b) && decide (a < b))

/-- A position not picked before round `r` does not come before the pick of round `r`. -/
theorem not_before (r : ℕ) (hr : r < n + 1) (e : Fin (n + 1)) (h : ∀ j < r, sel p j ≠ e) : before p e (sel p r) = false := by
  have h1 := le_pick (work p r) e
  have h2 := pick_le (work p r) e
  rw [work_of_not p hp r e h, show pick (work p r) = sel p r from rfl, work_sel p hp r hr] at h1 h2
  unfold before
  rw [Bool.or_eq_false_iff, decide_eq_false_iff_not, not_lt]
  refine ⟨h1, ?_⟩
  by_cases he : p e = p (sel p r)
  · have := h2 he
    rw [Bool.and_eq_false_iff]; right
    rw [decide_eq_false_iff_not, not_lt]; exact this
  · simp [he]

omit hp in
/-- That order is strict and total. -/
theorem before_total : StrictTotalBefore (before p) := by
  have h := StrictTotalBefore.of_key_then_position (fun a b : EReal => decide (b < a)) p
    (fun a => by simp) (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)
  exact h

omit hp in
/-- A stable sort of positions in order, greatest first, is the sort by that order. -/
theorem stableSort_eq (l : List (Fin (n + 1))) (hl : l.Pairwise (· < ·)) :
    stableSort (fun a b => decide (p b < p a)) l = stableSort (before p) l := by
  induction l with
  | nil => rfl
  | cons a l ih =>
    rw [List.pairwise_cons] at hl
    unfold stableSort
    rw [ih hl.2]
    refine insertBefore_congr _ _ a _ fun b hb => ?_
    have hab := hl.1 b ((perm_stableSort (before p) l).mem_iff.mp hb)
    unfold before
    rw [show decide (b < a) = false from by simpa using hab.le]
    simp

omit hp in
/-- Two orders that sort the positions alike put the same position at every place. -/
theorem sortedFrom_of_positions {m : ℕ} {A B : Fin m → Fin m → Bool} (h : sortPositions m A = sortPositions m B) :
    sortedFrom A = sortedFrom B := by
  funext k
  unfold sortedFrom
  rw [List.get_eq_getElem, List.get_eq_getElem]
  exact List.getElem_of_eq h _

/-- What a stable sort, greatest first, puts at place `i` is the pick of round `i`. -/
theorem sortedFrom_eq (k : ℕ) (hk : k ≤ n + 1) (i : Fin k) :
    sortedFrom (fun a b => decide (p b < p a)) (i.castLE hk) = sel p i.val := by
  have hs : sortPositions (n + 1) (fun a b => decide (p b < p a)) = sortPositions (n + 1) (before p) :=
    stableSort_eq p _ (List.pairwise_lt_finRange (n + 1))
  have h := StrictTotalBefore.sortedFrom_eq_of_prefix (before_total p) hk (fun j : Fin k => sel p j.val)
    (fun a b hab => by
      by_contra hne
      rcases lt_or_gt_of_ne (fun h => hne (Fin.ext h) : a.val ≠ b.val) with h | h
      · exact sel_new p hp b.val (by omega) a.val h hab
      · exact sel_new p hp a.val (by omega) b.val h hab.symm)
    (fun a b hab => not_before p hp a.val (by omega) _ fun j hj => sel_new p hp b.val (by omega) j (hj.trans hab))
    (fun a q hq => not_before p hp a.val (by omega) q fun j hj => hq ⟨j, by omega⟩) i
  rw [← h]
  exact congrFun (sortedFrom_of_positions hs) _

end Cert.Select

end
-- ==== Proof.Token.lean ====
/-
  What the programs compute for one token from its 64 probabilities, as plain functions: the number of experts used, the
  used places, the kept probabilities, the weights and the experts.
-/
module

public import proofs.«01_k».proof.Proof.Select
public import Idealize.ShloMosaic.Lib.Pointwise

@[expose] public section

noncomputable section

namespace Cert.Token

open Idealize.ShloMosaic

/-- The number of experts used, by the greatest probability. -/
def numOf (t : EReal) : BitVec 32 :=
  if Ideal.ofBits .f32 0x3F19999A#32 ≤ t then 1#32 else if Ideal.ofBits .f32 0x3ECCCCCD#32 ≤ t then 2#32 else 8#32

/-- The softmax of a token's 64 logits. -/
def soft (l : Fin 64 → EReal) (e : Fin 64) : EReal :=
  Ideal.div (Ideal.exp (l e - Finset.univ.sup l)) (∑ a, Ideal.exp (l a - Finset.univ.sup l))

variable (p : Fin 64 → EReal)

/-- Whether place `r` is used. -/
def used (r : ℕ) : BitVec 1 := IntOp.cmpi .slt (BitVec.ofNat 32 r) (numOf (Finset.univ.sup p))

/-- The expert at place `r`. -/
def expert (r : ℕ) : Fin 64 := Select.sel (n := 63) p r

/-- The probability kept at place `r`. -/
def kept (r : ℕ) : EReal := p (expert p r) * FloatOps.uitofp (F := Ideal) .f32 (used p r)

/-- The weight at place `r`. -/
def weight (r : ℕ) : EReal := Ideal.div (kept p r) (max (Ideal.ofBits .f32 0x3089705F#32) (∑ x : Fin 8, kept p x.val))

/-- The expert stored at place `r`: −1 where it is not used. -/
def index (r : ℕ) : BitVec 32 := Scalar.select (used p r) (BitVec.ofNat 32 (expert p r).val) 4294967295#32

/-- A one-bit word widened and read signed is the word read unsigned. -/
theorem sitofp_widened (b : BitVec 1) : FloatOps.sitofp (F := Ideal) .f32 (BitVec.setWidth 32 b) = FloatOps.uitofp (F := Ideal) .f32 b := by
  show (((BitVec.setWidth 32 b).toInt : ℝ) : EReal) = ((b.toNat : ℝ) : EReal)
  rw [show (BitVec.setWidth 32 b).toInt = (b.toNat : ℤ) by revert b; decide]
  norm_num

/-- The bit of an equality of words, read as a number. -/
theorem uitofp_eq (a b : BitVec 32) : FloatOps.uitofp (F := Ideal) .f32 (IntOp.cmpi .eq a b) = if a = b then (1 : EReal) else 0 := by
  show (((IntOp.cmpi .eq a b).toNat : ℝ) : EReal) = _
  unfold IntOp.cmpi
  by_cases h : a = b <;> simp [h]

end Cert.Token
-- ==== Proof.Finite.lean ====
/-
  The softmax of real logits: every probability is a positive real number.
-/
module

public import proofs.«01_k».proof.Proof.Token

@[expose] public section

noncomputable section

namespace Cert.Finite

open Idealize.ShloMosaic Cert.Token

/-- An extended real whose absolute value is below infinity is a real number. -/
theorem real_of_abs {a : EReal} (h : max a (-a) < ⊤) : ∃ r : ℝ, a = (r : EReal) := by
  induction a with
  | bot => simp at h
  | top => simp at h
  | coe r => exact ⟨r, rfl⟩

/-- A sum of real numbers, read as extended reals, is their real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- A sum of products of real numbers is a real number. -/
theorem real_dot {ι : Type} [Fintype ι] (x w : ι → EReal) (hx : ∀ i, ∃ r : ℝ, x i = (r : EReal)) (hw : ∀ i, ∃ r : ℝ, w i = (r : EReal)) :
    ∃ r : ℝ, (∑ i, x i * w i) = (r : EReal) := by
  choose a ha using hx
  choose b hb using hw
  refine ⟨∑ i, a i * b i, ?_⟩
  rw [← coe_sum]
  exact Finset.sum_congr rfl fun i _ => by rw [ha, hb, EReal.coe_mul]

/-- The greatest of 64 real numbers is a real number. -/
theorem real_sup (l : Fin 64 → ℝ) : ∃ r : ℝ, (Finset.univ.sup fun e => ((l e : ℝ) : EReal)) = (r : EReal) := by
  obtain ⟨e, -, he⟩ := Finset.exists_mem_eq_sup (Finset.univ : Finset (Fin 64)) ⟨0, Finset.mem_univ _⟩ fun e => ((l e : ℝ) : EReal)
  exact ⟨l e, he⟩

/-- The softmax of real logits is real and positive. -/
theorem soft_real (l : Fin 64 → EReal) (h : ∀ e, ∃ r : ℝ, l e = (r : EReal)) (e : Fin 64) : ∃ r : ℝ, 0 < r ∧ soft l e = (r : EReal) := by
  choose a ha using h
  obtain rfl : l = fun e => ((a e : ℝ) : EReal) := funext ha
  obtain ⟨M, hM⟩ := real_sup a
  have hE : ∀ e : Fin 64, Ideal.exp (((a e : ℝ) : EReal) - (M : EReal)) = ((Real.exp (a e - M) : ℝ) : EReal) := fun e => by
    rw [← EReal.coe_sub]
    rfl
  have hs : (0 : ℝ) < ∑ e : Fin 64, Real.exp (a e - M) := Finset.sum_pos (fun e _ => Real.exp_pos _) ⟨0, Finset.mem_univ _⟩
  refine ⟨Real.exp (a e - M) * (1 / ∑ e : Fin 64, Real.exp (a e - M)), by positivity, ?_⟩
  unfold soft
  simp only [hM, hE]
  rw [coe_sum, Ideal.div_coe hs.ne', EReal.coe_mul]

end Cert.Finite
-- ==== Proof.Given.lean ====
/-
  What the precondition says: every entry of the two arguments is a real number.
-/
module

public import proofs.«01_k».proof.Pre_finite_inputs
public import proofs.«01_k».proof.Proof.Finite

@[expose] public section

noncomputable section

namespace Cert.Given

open Idealize.ShloMosaic Cert.Pre_finite_inputs

/-- The shape relations the precondition takes. -/
theorem facts : Cert.Pre_finite_inputs.Facts := ⟨by decide, by decide⟩

/-- The word of infinity. -/
theorem ofBits_top : Ideal.ofBits .f32 0x7F800000#32 = ⊤ := by simp [Ideal.ofBits, Ideal.ieee]

/-- A comparison "below infinity" that holds. -/
theorem below (a : EReal) (h : Ideal.cmp .olt (max a (-a)) (Ideal.ofBits .f32 0x7F800000#32) = 1#1) : ∃ r : ℝ, a = (r : EReal) := by
  rw [ofBits_top] at h
  refine Finite.real_of_abs ?_
  by_contra hn
  simp [Ideal.cmp, hn] at h

/-- Both arguments are real where the precondition is all ones. -/
theorem real_of_pre [Cert.Pre_finite_inputs.Facts] (x : FVec Ideal S16384x4096 .f32) (w : FVec Ideal S64x4096 .f32)
    (hx : (fn (F := Ideal) x w).1 = fun _ => 1#1) (hw : (fn (F := Ideal) x w).2 = fun _ => 1#1) :
    (∀ i, ∃ r : ℝ, x i = (r : EReal)) ∧ ∀ i, ∃ r : ℝ, w i = (r : EReal) :=
  ⟨fun i => below (x i) (congrFun hx i), fun i => below (w i) (congrFun hw i)⟩

end Cert.Given
-- ==== Proof.Block.lean ====
/-
  What the kernel computes from one block of 1024 tokens, round by round: the greatest of each column of probabilities,
  its first position, that position set to −∞, and again. Every value the kernel's parts pass on is one of these.
-/
module

public import proofs.«01_k».proof.Proof.Gen.KernelIdeal.Skeleton

@[expose] public section

noncomputable section

namespace Cert.Block

open Idealize.ShloMosaic Idealize.SL.Sem
open Cert.KernelIdeal Cert.KernelIdeal.Gen

variable {F : FTy → Type} [FloatOps F]

/-- The row number of each entry of a block of 64 experts. -/
abbrev rows : IVec S64x1024 32 := iota .tc S64x1024 32 [0] iota_S64x1024_d0_w32

/-- The row number of each entry of a block of 8 slots. -/
abbrev slots : IVec S8x1024 32 := iota .tc S8x1024 32 [0] iota_S8x1024_d0_w32

/-- The greatest of each column. -/
def topRow (W : FVec F S64x1024 .f32) : FVec F S1x1024 .f32 :=
  shapeCast S1x1024 (multiReduction .maximumf [0] S1024 W 0xFF800000#32 reduces_S64x1024_S1024 (.inl rfl) rfl) shapeCasts_S1024_S1x1024

/-- Where a column's entry is its greatest. -/
def isTop (W : FVec F S64x1024 .f32) : IVec S64x1024 1 :=
  cmpf .oeq W (broadcastTo S64x1024 (topRow W) broadcasts_S1x1024_S64x1024)

/-- The first such row of each column, as a vector over the tokens. -/
def argVec (W : FVec F S64x1024 .f32) : IVec S1024 32 :=
  multiReductionI .minsi [0] S1024 (select (isTop W) rows (broadcast S64x1024 64#32)) 2147483647#32 reduces_S64x1024_S1024 rfl

/-- The same as a row. -/
def argRow (W : FVec F S64x1024 .f32) : IVec S1x1024 32 := shapeCast S1x1024 (argVec W) shapeCasts_S1024_S1x1024

/-- The block with the entry named for each column set to −∞. -/
def without (a : IVec S1x1024 32) (W : FVec F S64x1024 .f32) : FVec F S64x1024 .f32 :=
  select (cmpi .eq rows (broadcastTo S64x1024 a broadcasts_S1x1024_S64x1024)) (broadcast S64x1024 (Scalar.ofBits .f32 0xFF800000#32)) W

/-- The block after `r` rounds. -/
def work (P : FVec F S64x1024 .f32) : ℕ → FVec F S64x1024 .f32
  | 0 => P
  | r + 1 => without (argRow (work P r)) (work P r)

/-- A row written into slot `j`. -/
def put {α : Type} (j : BitVec 32) (row : S1x1024.Idx → α) (acc : S8x1024.Idx → α) : S8x1024.Idx → α :=
  select (cmpi .eq slots (broadcast S8x1024 j)) (broadcastTo S8x1024 (shapeCast S1x1024 row shapeCasts_S1x1024_S1x1024) broadcasts_S1x1024_S8x1024) acc

/-- The slots' values after `r` rounds. -/
def vals (P : FVec F S64x1024 .f32) : ℕ → FVec F S8x1024 .f32
  | 0 => broadcast S8x1024 (Scalar.ofBits .f32 0x00000000#32)
  | r + 1 => put (BitVec.ofNat 32 r) (topRow (work P r)) (vals P r)

/-- The slots' experts after `r` rounds. -/
def idxs (P : FVec F S64x1024 .f32) : ℕ → IVec S8x1024 32
  | 0 => broadcast S8x1024 0#32
  | r + 1 => put (BitVec.ofNat 32 r) (argRow (work P r)) (idxs P r)

/-! ### The values the parts pass on -/

section
variable (x : Vec F S1024x4096 .f32) (w : Vec F S64x4096 .f32)

theorem pay9_eq : k0_pay9 x w = vals (k0_pay6 x w) 1 := rfl
theorem pay10_eq : k0_pay10 x w = idxs (k0_pay6 x w) 1 := rfl
theorem pay11_eq : k0_pay11 x w = work (k0_pay6 x w) 1 := rfl
theorem pay12_eq : k0_pay12 x w = topRow (work (k0_pay6 x w) 1) := rfl
theorem pay13_eq : k0_pay13 x w = isTop (work (k0_pay6 x w) 1) := rfl
end

section
variable (P : FVec F S64x1024 .f32)

theorem pay18_eq : k0_pay18 rows slots (vals P 1) (work P 1) (topRow (work P 1)) (isTop (work P 1)) 64#32 = vals P 3 := rfl
theorem pay19_eq : k0_pay19 rows slots (idxs P 1) (work P 1) (isTop (work P 1)) 64#32 = idxs P 3 := rfl
theorem pay20_eq : k0_pay20 rows (work P 1) (isTop (work P 1)) 64#32 = work P 3 := rfl
theorem pay21_eq : k0_pay21 rows (work P 1) (isTop (work P 1)) 64#32 = topRow (work P 3) := rfl
theorem pay22_eq : k0_pay22 rows (work P 1) (isTop (work P 1)) 64#32 = argVec (work P 3) := rfl

theorem pay27_eq : k0_pay27 rows slots (vals P 3) (work P 3) (topRow (work P 3)) (argVec (work P 3)) = vals P 5 := rfl
theorem pay28_eq : k0_pay28 rows slots (idxs P 3) (work P 3) (argVec (work P 3)) = idxs P 5 := rfl
theorem pay29_eq : k0_pay29 rows (work P 3) (argVec (work P 3)) = work P 5 := rfl
theorem pay30_eq : k0_pay30 rows (work P 3) (argVec (work P 3)) = topRow (work P 5) := rfl
theorem pay31_eq : k0_pay31 rows (work P 3) (argVec (work P 3)) = argRow (work P 5) := rfl

theorem pay36_eq : k0_pay36 rows slots (idxs P 5) (work P 5) (argRow (work P 5)) = idxs P 7 := rfl
theorem pay39_eq : k0_pay39 rows (work P 5) (argRow (work P 5)) = argRow (work P 7) := rfl
theorem pay40_eq : k0_pay40 rows slots (vals P 5) (work P 5) (topRow (work P 5)) (argRow (work P 5)) (k0_pay32 slots) = vals P 8 := rfl
theorem pay41_eq : k0_pay41 slots (idxs P 7) (argRow (work P 7)) 7#32 = idxs P 8 := rfl
end

/-! ### What the kernel stores of one block -/

/-- The number of experts used, per token. -/
def kOf (P : FVec F S64x1024 .f32) : IVec S1x1024 32 := k0_pay42 (vals P 8)

/-- The slots in use. -/
def validOf (P : FVec F S64x1024 .f32) : IVec S8x1024 1 := k0_pay43 slots (vals P 8)

/-- The experts of the slots in use, −1 in the others. -/
def idxOf (P : FVec F S64x1024 .f32) : IVec S8x1024 32 := select (validOf P) (idxs P 8) (broadcast S8x1024 4294967295#32)

/-- The slots' weights. -/
def wgtOf (P : FVec F S64x1024 .f32) : FVec F S8x1024 .f32 := k0_pay45 slots (vals P 8)

/-- How many tokens of the block have each expert first. -/
def cntOf (P : FVec F S64x1024 .f32) : FVec F S64x1 .f32 := k0_pay46 rows slots (idxs P 7) (argRow (work P 7)) 7#32

/-- Each expert's probabilities, added over the block. -/
def sumOf (P : FVec F S64x1024 .f32) : FVec F S64x1 .f32 := k0_pay47 P

theorem pay44_eq (P : FVec F S64x1024 .f32) : k0_pay44 slots (idxs P 7) (argRow (work P 7)) (vals P 8) 7#32 = idxOf P := rfl

end Cert.Block
-- ==== Proof.Cases.lean ====
/-
  What the kernel's body leaves behind in each of its three cases (the first point, a middle point, the last point): the
  same functions of the point's block everywhere, and the two running sums.
-/
module

public import proofs.«01_k».proof.Proof.Gen.KernelIdeal.Frame
public import proofs.«01_k».proof.Proof.Block
public import Idealize.ShloMosaic.Lib.Pipeline.Value
public import Idealize.ShloMosaic.Lib.Tactic

@[expose] public section

noncomputable section

namespace Cert.Cases

open Idealize.ShloMosaic Idealize.ShloMosaic.TcCoe Idealize.SL.Sem
open Cert.KernelIdeal Cert.KernelIdeal.Gen Cert.Block

variable {F : FTy → Type} [FloatOps F]

theorem hz : (![0, 0] : Fin 2 → Nat) = fun _ => 0 := funext fun a => by fin_cases a <;> rfl

variable (c : Dev nD) (i : grid0.Coords)
  (a1 : Memref sig .tc .vmem S1024x4096 .f32) (h1 : a1.IsWhole) (a2 : Memref sig .tc .vmem S64x4096 .f32) (h2 : a2.IsWhole)
  (a3 : Memref sig .tc .vmem S8x1024 .i32) (h3 : a3.IsWhole) (a4 : Memref sig .tc .vmem S8x1024 .f32) (h4 : a4.IsWhole)
  (a5 : Memref sig .tc .vmem S1x1024 .i32) (h5 : a5.IsWhole) (a6 : Memref sig .tc .vmem S1x1 .f32) (h6 : a6.IsWhole)
  (a7 : Memref sig .tc .vmem S64x1 .f32) (h7 : a7.IsWhole) (a8 : Memref sig .tc .vmem S64x1 .f32) (h8 : a8.IsWhole)
  (x : Vec F S1024x4096 .f32) (w : Vec F S64x4096 .f32) (n p : Vec F S64x1 .f32)

/-- Case A, output 2. -/
theorem out_A_2 (hc0 : cond0_0 i) (hc1 : ¬cond0_1 i) (hc2 : ¬cond0_2 i) :
    out0_A_2 c i a1 h1 a2 h2 a3 h3 a4 h4 a5 h5 a6 h6 a7 h7 a8 h8 hc0 hc1 hc2 x w = idxOf (k0_pay6 x w) := by
  unfold out0_A_2
  rw [View.read_writes_eq_canon _ _ _ (cover0_A_2 c i a1 h1 a2 h2 a3 h3 a4 h4 a5 h5 a6 h6 a7 h7 a8 h8 hc0 hc1 hc2 x w)]
  unfold kernelRun0_A
  dsimp only
  sl_unfold_words
  rw [View.canon_unit_zero (S := S8x1024) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz]
  rfl

/-- Case A, output 3. -/
theorem out_A_3 (hc0 : cond0_0 i) (hc1 : ¬cond0_1 i) (hc2 : ¬cond0_2 i) :
    out0_A_3 c i a1 h1 a2 h2 a3 h3 a4 h4 a5 h5 a6 h6 a7 h7 a8 h8 hc0 hc1 hc2 x w = wgtOf (k0_pay6 x w) := by
  unfold out0_A_3
  rw [View.read_writes_eq_canon _ _ _ (cover0_A_3 c i a1 h1 a2 h2 a3 h3 a4 h4 a5 h5 a6 h6 a7 h7 a8 h8 hc0 hc1 hc2 x w)]
  unfold kernelRun0_A
  dsimp only
  sl_unfold_words
  rw [View.canon_unit_zero (S := S8x1024) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz]
  rfl

/-- Case A, output 4. -/
theorem out_A_4 (hc0 : cond0_0 i) (hc1 : ¬cond0_1 i) (hc2 : ¬cond0_2 i) :
    out0_A_4 c i a1 h1 a2 h2 a3 h3 a4 h4 a5 h5 a6 h6 a7 h7 a8 h8 hc0 hc1 hc2 x w = kOf (k0_pay6 x w) := by
  unfold out0_A_4
  rw [View.read_writes_eq_canon _ _ _ (cover0_A_4 c i a1 h1 a2 h2 a3 h3 a4 h4 a5 h5 a6 h6 a7 h7 a8 h8 hc0 hc1 hc2 x w)]
  unfold kernelRun0_A
  dsimp only
  sl_unfold_words
  rw [View.canon_unit_zero (S := S1x1024) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz]
  rfl

/-- Case A, running sum 0. -/
theorem sout_A_0 (hc0 : cond0_0 i) (hc1 : ¬cond0_1 i) (hc2 : ¬cond0_2 i) :
    sout0_A_0 c i a1 h1 a2 h2 a3 h3 a4 h4 a5 h5 a6 h6 a7 h7 a8 h8 hc0 hc1 hc2 x w = cntOf (k0_pay6 x w) := by
  unfold sout0_A_0
  rw [View.read_writes_eq_canon _ _ _ (scover0_A_0 c i a1 h1 a2 h2 a3 h3 a4 h4 a5 h5 a6 h6 a7 h7 a8 h8 hc0 hc1 hc2 x w)]
  unfold kernelRun0_A
  dsimp only
  sl_unfold_words
  rw [View.canon_unit_zero (S := S64x1) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz, k0_pay1, k0_pay2, k0_pay3, k0_pay4, shapeCast_self]
  rfl

/-- Case A, running sum 1. -/
theorem sout_A_1 (hc0 : cond0_0 i) (hc1 : ¬cond0_1 i) (hc2 : ¬cond0_2 i) :
    sout0_A_1 c i a1 h1 a2 h2 a3 h3 a4 h4 a5 h5 a6 h6 a7 h7 a8 h8 hc0 hc1 hc2 x w = sumOf (k0_pay6 x w) := by
  unfold sout0_A_1
  rw [View.read_writes_eq_canon _ _ _ (scover0_A_1 c i a1 h1 a2 h2 a3 h3 a4 h4 a5 h5 a6 h6 a7 h7 a8 h8 hc0 hc1 hc2 x w)]
  unfold kernelRun0_A
  dsimp only
  sl_unfold_words
  rw [View.canon_unit_zero (S := S64x1) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz, k0_pay1, k0_pay2, k0_pay3, k0_pay4, shapeCast_self]
  rfl

/-- Case B, output 2. -/
theorem out_B_2 (hc0 : ¬cond0_0 i) (hc1 : cond0_1 i) (hc2 : ¬cond0_2 i) :
    out0_B_2 c i a1 h1 a2 h2 a3 h3 a4 h4 a5 h5 a6 h6 a7 h7 a8 h8 hc0 hc1 hc2 x w n p = idxOf (k0_pay6 x w) := by
  unfold out0_B_2
  rw [View.read_writes_eq_canon _ _ _ (cover0_B_2 c i a1 h1 a2 h2 a3 h3 a4 h4 a5 h5 a6 h6 a7 h7 a8 h8 hc0 hc1 hc2 x w n p)]
  unfold kernelRun0_B
  dsimp only
  sl_unfold_words
  rw [View.canon_unit_zero (S := S8x1024) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz]
  rfl

/-- Case B, output 3. -/
theorem out_B_3 (hc0 : ¬cond0_0 i) (hc1 : cond0_1 i) (hc2 : ¬cond0_2 i) :
    out0_B_3 c i a1 h1 a2 h2 a3 h3 a4 h4 a5 h5 a6 h6 a7 h7 a8 h8 hc0 hc1 hc2 x w n p = wgtOf (k0_pay6 x w) := by
  unfold out0_B_3
  rw [View.read_writes_eq_canon _ _ _ (cover0_B_3 c i a1 h1 a2 h2 a3 h3 a4 h4 a5 h5 a6 h6 a7 h7 a8 h8 hc0 hc1 hc2 x w n p)]
  unfold kernelRun0_B
  dsimp only
  sl_unfold_words
  rw [View.canon_unit_zero (S := S8x1024) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz]
  rfl

/-- Case B, output 4. -/
theorem out_B_4 (hc0 : ¬cond0_0 i) (hc1 : cond0_1 i) (hc2 : ¬cond0_2 i) :
    out0_B_4 c i a1 h1 a2 h2 a3 h3 a4 h4 a5 h5 a6 h6 a7 h7 a8 h8 hc0 hc1 hc2 x w n p = kOf (k0_pay6 x w) := by
  unfold out0_B_4
  rw [View.read_writes_eq_canon _ _ _ (cover0_B_4 c i a1 h1 a2 h2 a3 h3 a4 h4 a5 h5 a6 h6 a7 h7 a8 h8 hc0 hc1 hc2 x w n p)]
  unfold kernelRun0_B
  dsimp only
  sl_unfold_words
  rw [View.canon_unit_zero (S := S1x1024) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz]
  rfl

/-- Case B, running sum 0. -/
theorem sout_B_0 (hc0 : ¬cond0_0 i) (hc1 : cond0_1 i) (hc2 : ¬cond0_2 i) :
    sout0_B_0 c i a1 h1 a2 h2 a3 h3 a4 h4 a5 h5 a6 h6 a7 h7 a8 h8 hc0 hc1 hc2 x w n p = addf n (cntOf (k0_pay6 x w)) := by
  unfold sout0_B_0
  rw [View.read_writes_eq_canon _ _ _ (scover0_B_0 c i a1 h1 a2 h2 a3 h3 a4 h4 a5 h5 a6 h6 a7 h7 a8 h8 hc0 hc1 hc2 x w n p)]
  unfold kernelRun0_B
  dsimp only
  sl_unfold_words
  rw [View.canon_unit_zero (S := S64x1) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz, k0_pay1, k0_pay2, k0_pay3, k0_pay4, shapeCast_self]
  rfl

/-- Case B, running sum 1. -/
theorem sout_B_1 (hc0 : ¬cond0_0 i) (hc1 : cond0_1 i) (hc2 : ¬cond0_2 i) :
    sout0_B_1 c i a1 h1 a2 h2 a3 h3 a4 h4 a5 h5 a6 h6 a7 h7 a8 h8 hc0 hc1 hc2 x w n p = addf p (sumOf (k0_pay6 x w)) := by
  unfold sout0_B_1
  rw [View.read_writes_eq_canon _ _ _ (scover0_B_1 c i a1 h1 a2 h2 a3 h3 a4 h4 a5 h5 a6 h6 a7 h7 a8 h8 hc0 hc1 hc2 x w n p)]
  unfold kernelRun0_B
  dsimp only
  sl_unfold_words
  rw [View.canon_unit_zero (S := S64x1) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz, k0_pay1, k0_pay2, k0_pay3, k0_pay4, shapeCast_self]
  rfl

/-- Case C, output 2. -/
theorem out_C_2 (hc0 : ¬cond0_0 i) (hc1 : cond0_1 i) (hc2 : cond0_2 i) :
    out0_C_2 c i a1 h1 a2 h2 a3 h3 a4 h4 a5 h5 a6 h6 a7 h7 a8 h8 hc0 hc1 hc2 x w n p = idxOf (k0_pay6 x w) := by
  unfold out0_C_2
  rw [View.read_writes_eq_canon _ _ _ (cover0_C_2 c i a1 h1 a2 h2 a3 h3 a4 h4 a5 h5 a6 h6 a7 h7 a8 h8 hc0 hc1 hc2 x w n p)]
  unfold kernelRun0_C
  dsimp only
  sl_unfold_words
  rw [View.canon_unit_zero (S := S8x1024) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz]
  rfl

/-- Case C, output 3. -/
theorem out_C_3 (hc0 : ¬cond0_0 i) (hc1 : cond0_1 i) (hc2 : cond0_2 i) :
    out0_C_3 c i a1 h1 a2 h2 a3 h3 a4 h4 a5 h5 a6 h6 a7 h7 a8 h8 hc0 hc1 hc2 x w n p = wgtOf (k0_pay6 x w) := by
  unfold out0_C_3
  rw [View.read_writes_eq_canon _ _ _ (cover0_C_3 c i a1 h1 a2 h2 a3 h3 a4 h4 a5 h5 a6 h6 a7 h7 a8 h8 hc0 hc1 hc2 x w n p)]
  unfold kernelRun0_C
  dsimp only
  sl_unfold_words
  rw [View.canon_unit_zero (S := S8x1024) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz]
  rfl

/-- Case C, output 4. -/
theorem out_C_4 (hc0 : ¬cond0_0 i) (hc1 : cond0_1 i) (hc2 : cond0_2 i) :
    out0_C_4 c i a1 h1 a2 h2 a3 h3 a4 h4 a5 h5 a6 h6 a7 h7 a8 h8 hc0 hc1 hc2 x w n p = kOf (k0_pay6 x w) := by
  unfold out0_C_4
  rw [View.read_writes_eq_canon _ _ _ (cover0_C_4 c i a1 h1 a2 h2 a3 h3 a4 h4 a5 h5 a6 h6 a7 h7 a8 h8 hc0 hc1 hc2 x w n p)]
  unfold kernelRun0_C
  dsimp only
  sl_unfold_words
  rw [View.canon_unit_zero (S := S1x1024) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz]
  rfl

/-- Case C, running sum 0. -/
theorem sout_C_0 (hc0 : ¬cond0_0 i) (hc1 : cond0_1 i) (hc2 : cond0_2 i) :
    sout0_C_0 c i a1 h1 a2 h2 a3 h3 a4 h4 a5 h5 a6 h6 a7 h7 a8 h8 hc0 hc1 hc2 x w n p = addf n (cntOf (k0_pay6 x w)) := by
  unfold sout0_C_0
  rw [View.read_writes_eq_canon _ _ _ (scover0_C_0 c i a1 h1 a2 h2 a3 h3 a4 h4 a5 h5 a6 h6 a7 h7 a8 h8 hc0 hc1 hc2 x w n p)]
  unfold kernelRun0_C
  dsimp only
  sl_unfold_words
  rw [View.canon_unit_zero (S := S64x1) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz, k0_pay1, k0_pay2, k0_pay3, k0_pay4, shapeCast_self]
  rfl

/-- Case C, running sum 1. -/
theorem sout_C_1 (hc0 : ¬cond0_0 i) (hc1 : cond0_1 i) (hc2 : cond0_2 i) :
    sout0_C_1 c i a1 h1 a2 h2 a3 h3 a4 h4 a5 h5 a6 h6 a7 h7 a8 h8 hc0 hc1 hc2 x w n p = addf p (sumOf (k0_pay6 x w)) := by
  unfold sout0_C_1
  rw [View.read_writes_eq_canon _ _ _ (scover0_C_1 c i a1 h1 a2 h2 a3 h3 a4 h4 a5 h5 a6 h6 a7 h7 a8 h8 hc0 hc1 hc2 x w n p)]
  unfold kernelRun0_C
  dsimp only
  sl_unfold_words
  rw [View.canon_unit_zero (S := S64x1) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz, k0_pay1, k0_pay2, k0_pay3, k0_pay4, shapeCast_self]
  rfl

/-- Case C, output 5. -/
theorem out_C_5 (hc0 : ¬cond0_0 i) (hc1 : cond0_1 i) (hc2 : cond0_2 i) :
    out0_C_5 c i a1 h1 a2 h2 a3 h3 a4 h4 a5 h5 a6 h6 a7 h7 a8 h8 hc0 hc1 hc2 x w n p = k0_pay5 (addf n (cntOf (k0_pay6 x w))) (addf p (sumOf (k0_pay6 x w))) := by
  unfold out0_C_5
  rw [View.read_writes_eq_canon _ _ _ (cover0_C_5 c i a1 h1 a2 h2 a3 h3 a4 h4 a5 h5 a6 h6 a7 h7 a8 h8 hc0 hc1 hc2 x w n p)]
  unfold kernelRun0_C
  dsimp only
  sl_unfold_words
  rw [View.canon_unit_zero (S := S1x1) hz]
  simp only [View.readAt_eq_ld, h1.read_unread, h2.read_unread, h7.read_unread, h8.read_unread, View.ld_unit_zero (S := S1024x4096) hz,
    View.ld_unit_zero (S := S64x4096) hz, View.ld_unit_zero (S := S64x1) hz, View.readCov_unit_zero (S := S64x1) _ hz, k0_pay1, k0_pay2, k0_pay3, k0_pay4, shapeCast_self]
  rfl

end Cert.Cases
-- ==== Proof.Sweep.lean ====
/-
  The kernel's four result arrays after the run: each array's block of 1024 tokens is what that block's point leaves, and
  the last result comes from the two running sums after the last point.
-/
module

public import proofs.«01_k».proof.Proof.Cases
public import Idealize.ShloMosaic.Lib.Pointwise

@[expose] public section

noncomputable section

namespace Cert.Sweep

open Idealize.ShloMosaic Idealize.ShloMosaic.TcCoe Idealize.SL.Sem
open Idealize.ShloMosaic.Pipeline (Dat)
open Cert.KernelIdeal Cert.KernelIdeal.Gen Cert.Block

variable {F : FTy → Type} [FloatOps F]
variable (m : (ℓ : Loc nD τ sig) → Buf (Elt F) ℓ) (ρ : Dev nD → PrngReg)

/-- The probabilities of point `t`'s block of tokens. -/
def prob (c : Dev nD) (t : Fin cfg0.N) : FVec F S64x1024 .f32 := k0_pay6 (iblk m c 0 t) (iblk m c 1 t)

/-- How many tokens so far have each expert first. -/
def cntAt (c : Dev nD) : (n : ℕ) → n < cfg0.N → FVec F S64x1 .f32
  | 0, h => cntOf (prob m c ⟨0, h⟩)
  | n + 1, h => addf (cntAt c n (Nat.lt_of_succ_lt h)) (cntOf (prob m c ⟨n + 1, h⟩))

/-- Each expert's probabilities, added over the tokens so far. -/
def sumAt (c : Dev nD) : (n : ℕ) → n < cfg0.N → FVec F S64x1 .f32
  | 0, h => sumOf (prob m c ⟨0, h⟩)
  | n + 1, h => addf (sumAt c n (Nat.lt_of_succ_lt h)) (sumOf (prob m c ⟨n + 1, h⟩))

/-- What every point leaves. -/
structure Left (c : Dev nD) (n : ℕ) (h : n < cfg0.N) : Prop where
  idx : (outsAt0 m c n h).1 = idxOf (prob m c ⟨n, h⟩)
  wgt : (outsAt0 m c n h).2.1 = wgtOf (prob m c ⟨n, h⟩)
  num : (outsAt0 m c n h).2.2.1 = kOf (prob m c ⟨n, h⟩)
  cnt : (outsAt0 m c n h).2.2.2.2.1 = cntAt m c n h
  sum : (outsAt0 m c n h).2.2.2.2.2 = sumAt m c n h
  aux : n = 15 → (outsAt0 m c n h).2.2.2.1 = k0_pay5 (cntAt m c n h) (sumAt m c n h)

/-- By induction on the point. -/
theorem left (c : Dev nD) : ∀ (n : ℕ) (h : n < cfg0.N), Left m c n h
  | 0, h => by
    have e := outsAt0_A m c ⟨0, h⟩ rfl (by dsimp only; omega) (by dsimp only; omega)
    simp only [Cases.out_A_2, Cases.out_A_3, Cases.out_A_4, Cases.sout_A_0, Cases.sout_A_1] at e
    constructor
    · exact congrArg (fun q => q.1) e
    · exact congrArg (fun q => q.2.1) e
    · exact congrArg (fun q => q.2.2.1) e
    · exact congrArg (fun q => q.2.2.2.2.1) e
    · exact congrArg (fun q => q.2.2.2.2.2) e
    · intro h; omega
  | n + 1, h => by
    have hN : cfg0.N = 16 := N_0
    have L := left c n (Nat.lt_of_succ_lt h)
    have hc : (outsAt0 m c n (Nat.lt_of_succ_lt h)).2.2.2.2.1 = cntAt m c n (Nat.lt_of_succ_lt h) := L.cnt
    have hs : (outsAt0 m c n (Nat.lt_of_succ_lt h)).2.2.2.2.2 = sumAt m c n (Nat.lt_of_succ_lt h) := L.sum
    by_cases h15 : n + 1 = 15
    · have e := outsAt0_C m c ⟨n + 1, h⟩ (by dsimp only; omega) (by dsimp only; omega) (by dsimp only; omega)
      dsimp only [Nat.add_sub_cancel] at e
      simp only [show n + 1 - 1 = n from rfl, hc, hs, Cases.out_C_2, Cases.out_C_3, Cases.out_C_4, Cases.sout_C_0, Cases.sout_C_1, Cases.out_C_5] at e
      constructor
      · exact congrArg (fun q => q.1) e
      · exact congrArg (fun q => q.2.1) e
      · exact congrArg (fun q => q.2.2.1) e
      · exact congrArg (fun q => q.2.2.2.2.1) e
      · exact congrArg (fun q => q.2.2.2.2.2) e
      · intro _; exact congrArg (fun q => q.2.2.2.1) e
    · have e := outsAt0_B m c ⟨n + 1, h⟩ (by dsimp only; omega) (by dsimp only; omega) (by dsimp only; omega)
      dsimp only [Nat.add_sub_cancel] at e
      simp only [show n + 1 - 1 = n from rfl, hc, hs, Cases.out_B_2, Cases.out_B_3, Cases.out_B_4, Cases.sout_B_0, Cases.sout_B_1] at e
      constructor
      · exact congrArg (fun q => q.1) e
      · exact congrArg (fun q => q.2.1) e
      · exact congrArg (fun q => q.2.2.1) e
      · exact congrArg (fun q => q.2.2.2.2.1) e
      · exact congrArg (fun q => q.2.2.2.2.2) e
      · intro h; omega

/-- The point whose block holds token `n`. -/
def pointOf (n : Fin 16384) : Fin cfg0.N := ⟨n.val / 1024, by rw [show cfg0.N = 16 from N_0]; omega⟩

/-- The token's place in that block. -/
def placeOf (n : Fin 16384) : Fin 1024 := ⟨n.val % 1024, Nat.mod_lt _ (by decide)⟩

/-- The array of the slots’ experts. -/
def idxArr (c : Dev nD) : Buf (Elt F) ((c : Thread nD τ).loc main_v0_0) := fun i => idxOf (prob m c (pointOf (i 1))) (ix2 (i 0) (placeOf (i 1)))

theorem index2 : ∀ t : Fin cfg0.N, win0_2.index t (0 : Fin 2) = 0 ∧ win0_2.index t (1 : Fin 2) = t.val :=
  (by decide +kernel : ∀ t : Fin grid0.N, _)

/-- Every point writes its block of it. -/
theorem flushed2 (c : Dev nD) (t : Fin cfg0.N) (hf : (cfg0.win 2).flush t = true) :
    (dats m 0 c).flushed 2 t = ((cfg0.win 2).blk t).view.read (Elt F) (idxArr m c) := by
  show (cfg0.win 2).cut (grid0.coords t) ((dats m 0 c).after 2 t) = _
  rw [after0_2, (left m c t.val t.isLt).idx]
  obtain ⟨e0, e1⟩ := index2 t
  have ht : t.val < 16 := lt_of_lt_of_eq t.isLt N_0
  funext y
  have hy0 : (y 0).val < 8 := (y 0).isLt
  have hy1 : (y 1).val < 1024 := (y 1).isLt
  have hb0 : (((cfg0.win 2).blk t).view.emb y 0).val = win0_2.index t (0 : Fin 2) * 8 + 1 * (y 0).val := rfl
  have hb1 : (((cfg0.win 2).blk t).view.emb y 1).val = win0_2.index t (1 : Fin 2) * 1024 + 1 * (y 1).val := rfl
  have hp : pointOf (((cfg0.win 2).blk t).view.emb y 1) = t := by
    apply Fin.ext
    show (((cfg0.win 2).blk t).view.emb y 1).val / 1024 = t.val
    rw [hb1, e1]; omega
  have hl : (ix2 (((cfg0.win 2).blk t).view.emb y 0) (placeOf (((cfg0.win 2).blk t).view.emb y 1)) : S8x1024.Idx) = (cfg0.win 2).xinj (grid0.coords t) y := by
    funext a; apply Fin.ext
    match a with
    | ⟨0, _⟩ => show (((cfg0.win 2).blk t).view.emb y 0).val = (y 0).val; rw [hb0, e0]; omega
    | ⟨1, _⟩ => show (((cfg0.win 2).blk t).view.emb y 1).val % 1024 = (y 1).val; rw [hb1, e1]; omega
  show idxOf (prob m c t) ((cfg0.win 2).xinj (grid0.coords t) y) = idxOf (prob m c (pointOf (((cfg0.win 2).blk t).view.emb y 1))) _
  rw [hp]
  exact congrArg _ hl.symm

/-- The blocks fill the array. -/
theorem covered2 (i : S8x16384.Idx) : ∃ t : Fin cfg0.N, (cfg0.win 2).flush t = true ∧ i ∈ ((cfg0.win 2).blk t).view.set := by
  obtain ⟨e0, e1⟩ := index2 (pointOf (i 1))
  have e1' : win0_2.index (pointOf (i 1)) (1 : Fin 2) = (i 1).val / 1024 := e1
  have hi0 : (i 0).val < 8 := (i 0).isLt
  have hi1 : (i 1).val < 16384 := (i 1).isLt
  refine ⟨pointOf (i 1), flush0_2 _, ?_⟩
  show i ∈ ((View.whole main_v0_0).slice (win0_2.rect (pointOf (i 1)))).set
  rw [View.set_slice_whole, Rect.mem_set_unit]
  intro a
  match a with
  | ⟨0, _⟩ => show win0_2.index (pointOf (i 1)) (0 : Fin 2) * 8 ≤ (i 0).val ∧ (i 0).val < win0_2.index (pointOf (i 1)) (0 : Fin 2) * 8 + 8; omega
  | ⟨1, _⟩ => show win0_2.index (pointOf (i 1)) (1 : Fin 2) * 1024 ≤ (i 1).val ∧ (i 1).val < win0_2.index (pointOf (i 1)) (1 : Fin 2) * 1024 + 1024; omega

/-- The array after the run. -/
theorem final2 (c : Dev nD) : (dats m 0 c).arrAt 2 cfg0.N = idxArr m c :=
  (dats m 0 c).arrAt_eq_of_cover 2 _ (flushed2 m c) covered2

/-- The array of the slots’ weights. -/
def wgtArr (c : Dev nD) : Buf (Elt F) ((c : Thread nD τ).loc main_v0_1) := fun i => wgtOf (prob m c (pointOf (i 1))) (ix2 (i 0) (placeOf (i 1)))

theorem index3 : ∀ t : Fin cfg0.N, win0_3.index t (0 : Fin 2) = 0 ∧ win0_3.index t (1 : Fin 2) = t.val :=
  (by decide +kernel : ∀ t : Fin grid0.N, _)

/-- Every point writes its block of it. -/
theorem flushed3 (c : Dev nD) (t : Fin cfg0.N) (hf : (cfg0.win 3).flush t = true) :
    (dats m 0 c).flushed 3 t = ((cfg0.win 3).blk t).view.read (Elt F) (wgtArr m c) := by
  show (cfg0.win 3).cut (grid0.coords t) ((dats m 0 c).after 3 t) = _
  rw [after0_3, (left m c t.val t.isLt).wgt]
  obtain ⟨e0, e1⟩ := index3 t
  have ht : t.val < 16 := lt_of_lt_of_eq t.isLt N_0
  funext y
  have hy0 : (y 0).val < 8 := (y 0).isLt
  have hy1 : (y 1).val < 1024 := (y 1).isLt
  have hb0 : (((cfg0.win 3).blk t).view.emb y 0).val = win0_3.index t (0 : Fin 2) * 8 + 1 * (y 0).val := rfl
  have hb1 : (((cfg0.win 3).blk t).view.emb y 1).val = win0_3.index t (1 : Fin 2) * 1024 + 1 * (y 1).val := rfl
  have hp : pointOf (((cfg0.win 3).blk t).view.emb y 1) = t := by
    apply Fin.ext
    show (((cfg0.win 3).blk t).view.emb y 1).val / 1024 = t.val
    rw [hb1, e1]; omega
  have hl : (ix2 (((cfg0.win 3).blk t).view.emb y 0) (placeOf (((cfg0.win 3).blk t).view.emb y 1)) : S8x1024.Idx) = (cfg0.win 3).xinj (grid0.coords t) y := by
    funext a; apply Fin.ext
    match a with
    | ⟨0, _⟩ => show (((cfg0.win 3).blk t).view.emb y 0).val = (y 0).val; rw [hb0, e0]; omega
    | ⟨1, _⟩ => show (((cfg0.win 3).blk t).view.emb y 1).val % 1024 = (y 1).val; rw [hb1, e1]; omega
  show wgtOf (prob m c t) ((cfg0.win 3).xinj (grid0.coords t) y) = wgtOf (prob m c (pointOf (((cfg0.win 3).blk t).view.emb y 1))) _
  rw [hp]
  exact congrArg _ hl.symm

/-- The blocks fill the array. -/
theorem covered3 (i : S8x16384.Idx) : ∃ t : Fin cfg0.N, (cfg0.win 3).flush t = true ∧ i ∈ ((cfg0.win 3).blk t).view.set := by
  obtain ⟨e0, e1⟩ := index3 (pointOf (i 1))
  have e1' : win0_3.index (pointOf (i 1)) (1 : Fin 2) = (i 1).val / 1024 := e1
  have hi0 : (i 0).val < 8 := (i 0).isLt
  have hi1 : (i 1).val < 16384 := (i 1).isLt
  refine ⟨pointOf (i 1), flush0_3 _, ?_⟩
  show i ∈ ((View.whole main_v0_1).slice (win0_3.rect (pointOf (i 1)))).set
  rw [View.set_slice_whole, Rect.mem_set_unit]
  intro a
  match a with
  | ⟨0, _⟩ => show win0_3.index (pointOf (i 1)) (0 : Fin 2) * 8 ≤ (i 0).val ∧ (i 0).val < win0_3.index (pointOf (i 1)) (0 : Fin 2) * 8 + 8; omega
  | ⟨1, _⟩ => show win0_3.index (pointOf (i 1)) (1 : Fin 2) * 1024 ≤ (i 1).val ∧ (i 1).val < win0_3.index (pointOf (i 1)) (1 : Fin 2) * 1024 + 1024; omega

/-- The array after the run. -/
theorem final3 (c : Dev nD) : (dats m 0 c).arrAt 3 cfg0.N = wgtArr m c :=
  (dats m 0 c).arrAt_eq_of_cover 3 _ (flushed3 m c) covered3

/-- The array of the number of experts used. -/
def numArr (c : Dev nD) : Buf (Elt F) ((c : Thread nD τ).loc main_v0_2) := fun i => kOf (prob m c (pointOf (i 1))) (ix2 (i 0) (placeOf (i 1)))

theorem index4 : ∀ t : Fin cfg0.N, win0_4.index t (0 : Fin 2) = 0 ∧ win0_4.index t (1 : Fin 2) = t.val :=
  (by decide +kernel : ∀ t : Fin grid0.N, _)

/-- Every point writes its block of it. -/
theorem flushed4 (c : Dev nD) (t : Fin cfg0.N) (hf : (cfg0.win 4).flush t = true) :
    (dats m 0 c).flushed 4 t = ((cfg0.win 4).blk t).view.read (Elt F) (numArr m c) := by
  show (cfg0.win 4).cut (grid0.coords t) ((dats m 0 c).after 4 t) = _
  rw [after0_4, (left m c t.val t.isLt).num]
  obtain ⟨e0, e1⟩ := index4 t
  have ht : t.val < 16 := lt_of_lt_of_eq t.isLt N_0
  funext y
  have hy0 : (y 0).val < 1 := (y 0).isLt
  have hy1 : (y 1).val < 1024 := (y 1).isLt
  have hb0 : (((cfg0.win 4).blk t).view.emb y 0).val = win0_4.index t (0 : Fin 2) * 1 + 1 * (y 0).val := rfl
  have hb1 : (((cfg0.win 4).blk t).view.emb y 1).val = win0_4.index t (1 : Fin 2) * 1024 + 1 * (y 1).val := rfl
  have hp : pointOf (((cfg0.win 4).blk t).view.emb y 1) = t := by
    apply Fin.ext
    show (((cfg0.win 4).blk t).view.emb y 1).val / 1024 = t.val
    rw [hb1, e1]; omega
  have hl : (ix2 (((cfg0.win 4).blk t).view.emb y 0) (placeOf (((cfg0.win 4).blk t).view.emb y 1)) : S1x1024.Idx) = (cfg0.win 4).xinj (grid0.coords t) y := by
    funext a; apply Fin.ext
    match a with
    | ⟨0, _⟩ => show (((cfg0.win 4).blk t).view.emb y 0).val = (y 0).val; rw [hb0, e0]; omega
    | ⟨1, _⟩ => show (((cfg0.win 4).blk t).view.emb y 1).val % 1024 = (y 1).val; rw [hb1, e1]; omega
  show kOf (prob m c t) ((cfg0.win 4).xinj (grid0.coords t) y) = kOf (prob m c (pointOf (((cfg0.win 4).blk t).view.emb y 1))) _
  rw [hp]
  exact congrArg _ hl.symm

/-- The blocks fill the array. -/
theorem covered4 (i : S1x16384.Idx) : ∃ t : Fin cfg0.N, (cfg0.win 4).flush t = true ∧ i ∈ ((cfg0.win 4).blk t).view.set := by
  obtain ⟨e0, e1⟩ := index4 (pointOf (i 1))
  have e1' : win0_4.index (pointOf (i 1)) (1 : Fin 2) = (i 1).val / 1024 := e1
  have hi0 : (i 0).val < 1 := (i 0).isLt
  have hi1 : (i 1).val < 16384 := (i 1).isLt
  refine ⟨pointOf (i 1), flush0_4 _, ?_⟩
  show i ∈ ((View.whole main_v0_2).slice (win0_4.rect (pointOf (i 1)))).set
  rw [View.set_slice_whole, Rect.mem_set_unit]
  intro a
  match a with
  | ⟨0, _⟩ => show win0_4.index (pointOf (i 1)) (0 : Fin 2) * 1 ≤ (i 0).val ∧ (i 0).val < win0_4.index (pointOf (i 1)) (0 : Fin 2) * 1 + 1; omega
  | ⟨1, _⟩ => show win0_4.index (pointOf (i 1)) (1 : Fin 2) * 1024 ≤ (i 1).val ∧ (i 1).val < win0_4.index (pointOf (i 1)) (1 : Fin 2) * 1024 + 1024; omega

/-- The array after the run. -/
theorem final4 (c : Dev nD) : (dats m 0 c).arrAt 4 cfg0.N = numArr m c :=
  (dats m 0 c).arrAt_eq_of_cover 4 _ (flushed4 m c) covered4

/-! ### The last result -/

/-- The last point. -/
def last : Fin cfg0.N := ⟨15, by rw [show cfg0.N = 16 from N_0]; decide⟩

/-- The array of the one value. -/
def auxArr (c : Dev nD) : Buf (Elt F) ((c : Thread nD τ).loc main_v0_3) := k0_pay5 (cntAt m c 15 last.isLt) (sumAt m c 15 last.isLt)

/-- The last point writes it. -/
theorem flushed5 (c : Dev nD) (t : Fin cfg0.N) (hf : (cfg0.win 5).flush t = true) :
    (dats m 0 c).flushed 5 t = ((cfg0.win 5).blk t).view.read (Elt F) (auxArr m c) := by
  have h15 : t.val = 15 := by have := (flush0_5 t).mp hf; have := lt_of_lt_of_eq t.isLt N_0; omega
  obtain rfl : t = last := Fin.ext h15
  show (cfg0.win 5).cut (grid0.coords last) ((dats m 0 c).after 5 last) = _
  rw [after0_5, (left m c last.val last.isLt).aux rfl]
  have hz' : (fun a => win0_5.index last a * main_v0_3.ty.shape.size a) = fun _ => 0 := funext fun a => by fin_cases a <;> decide
  exact (Memref.read_access_unit_zero (Elt F) main_v0_3 hz' (fun a => by rw [congrFun hz' a]; simp) (auxArr m c)).symm

/-- The array after the run. -/
theorem final5 (c : Dev nD) : (dats m 0 c).arrAt 5 cfg0.N = auxArr m c :=
  (dats m 0 c).arrAt_eq_of_cover 5 (auxArr m c) (flushed5 m c) fun i =>
    ⟨last, (flush0_5 last).mpr rfl, by
      have h0 : (i 0 : Nat) < 1 := (i 0).isLt
      have h1 : (i 1 : Nat) < 1 := (i 1).isLt
      have e0 : win0_5.index last (0 : Fin 2) = 0 := by decide +kernel
      have e1 : win0_5.index last (1 : Fin 2) = 0 := by decide +kernel
      show i ∈ ((View.whole main_v0_3).slice (win0_5.rect last)).set
      rw [View.set_slice_whole, Rect.mem_set_unit]
      intro a
      match a with
      | ⟨0, _⟩ => show win0_5.index last (0 : Fin 2) * 1 ≤ (i 0).val ∧ (i 0).val < win0_5.index last (0 : Fin 2) * 1 + 1; omega
      | ⟨1, _⟩ => show win0_5.index last (1 : Fin 2) * 1 ≤ (i 1).val ∧ (i 1).val < win0_5.index last (1 : Fin 2) * 1 + 1; omega⟩

end Cert.Sweep
-- ==== Proof.KernelRun.lean ====
/-
  The kernel's run, read off at its four results: the arrays of `Sweep`, the first two transposed and the others reshaped
  by the program's last lines.
-/
module

public import proofs.«01_k».proof.Proof.Sweep
public import Idealize.ShloMosaic.Lib.StableHlo.Run

@[expose] public section

noncomputable section

namespace Cert.KernelRun

open Idealize.ShloMosaic Idealize.ShloMosaic.TcCoe Idealize.SL.Sem
open Idealize.ShloMosaic.Pipeline (Dat)
open Cert.KernelIdeal Cert.KernelIdeal.Gen Cert.Sweep

variable {F : FTy → Type} [FloatOps F]
variable (m : (ℓ : Loc nD τ sig) → Buf (Elt F) ℓ) (ρ : Dev nD → PrngReg)

/-- The windows' arrays are different arrays. -/
theorem arrs_inj : Function.Injective (Pipeline.arrRef spec0) := by decide

/-- What the buffers hold when the last lines start: the region's arrays as it leaves them. -/
abbrev entry (c : Dev nD) : Valuation τ sig (Elt F) := Pipeline.withArrays spec0 c (V0 m c) fun w => (dats m 0 c).arrAt w cfg0.N

theorem entry_idx (c : Dev nD) : entry m c (Proc.devRef .tc main_v0_0) = idxArr m c :=
  (Pipeline.withArrays_arr spec0 arrs_inj c (V0 m c) _ 2).trans (final2 m c)

theorem entry_wgt (c : Dev nD) : entry m c (Proc.devRef .tc main_v0_1) = wgtArr m c :=
  (Pipeline.withArrays_arr spec0 arrs_inj c (V0 m c) _ 3).trans (final3 m c)

theorem entry_num (c : Dev nD) : entry m c (Proc.devRef .tc main_v0_2) = numArr m c :=
  (Pipeline.withArrays_arr spec0 arrs_inj c (V0 m c) _ 4).trans (final4 m c)

theorem entry_aux (c : Dev nD) : entry m c (Proc.devRef .tc main_v0_3) = auxArr m c :=
  (Pipeline.withArrays_arr spec0 arrs_inj c (V0 m c) _ 5).trans (final5 m c)

/-- The run: the four results, and the arguments unchanged. -/
theorem run : θ_run defs (onTc (τ := τ) (main (F := F))) ⟨m, fun _ => 0, ρ⟩ fun r => ∀ c : Dev nD,
      r.2.mem ((c : Thread nD τ).loc main_v1) = transpose S16384x8 [1, 0] (idxArr m c) transposes_S8x16384_S16384x8_1_0
      ∧ r.2.mem ((c : Thread nD τ).loc main_v2) = transpose S16384x8 [1, 0] (wgtArr m c) transposes_S8x16384_S16384x8_1_0
      ∧ r.2.mem ((c : Thread nD τ).loc main_v3) = shapeCast S16384 (numArr m c) shapeCasts_S1x16384_S16384
      ∧ r.2.mem ((c : Thread nD τ).loc main_v4) = shapeCast S_ (auxArr m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (θ_run_and (run_main m ρ) (unchanged m ρ))
  obtain ⟨h, hu⟩ := h
  have hr : ∀ b ∈ Pipeline.restRefs sig spec0, r.2.mem ((c.tc : Thread nD τ).loc b) = StableHlo.after hostOps1 (entry m c) (Proc.devRef .tc b) := (h c).2
  refine ⟨(hr main_v1 (by decide)).trans ?_, (hr main_v2 (by decide)).trans ?_, (hr main_v3 (by decide)).trans ?_, (hr main_v4 (by decide)).trans ?_, (hu c).1, (hu c).2⟩
  · simp only [hostOps1]; after_results_simp; rw [entry_idx]
  · simp only [hostOps1]; after_results_simp; rw [entry_wgt]
  · simp only [hostOps1]; after_results_simp; rw [entry_num]; rfl
  · simp only [hostOps1]; after_results_simp; rw [entry_aux]; rfl

end Cert.KernelRun
-- ==== Proof.Column.lean ====
/-
  One token's column of a block: what the eight rounds leave is the repeated picking of `Select`, and the values stored
  for the token are functions of its column alone.
-/
module

public import proofs.«01_k».proof.Proof.Block
public import proofs.«01_k».proof.Proof.Select
public import Idealize.ShloMosaic.Lib.Pointwise

@[expose] public section

noncomputable section

namespace Cert.Column

open Idealize.ShloMosaic Idealize.SL.Sem
open Cert.KernelIdeal Cert.KernelIdeal.Gen Cert.Block

/-- The probabilities of token `j` of a block. -/
def col (P : FVec Ideal S64x1024 .f32) (j : Fin 1024) : Fin 64 → EReal := fun e => P (ix2 e j)

/-- −∞ as the programs write it. -/
theorem ofBits_bot : Ideal.ofBits .f32 0xFF800000#32 = ⊥ := by
  simp [Ideal.ofBits, Ideal.ieee]

/-- The fold of the maximum from −∞ is the greatest value. -/
theorem fold_max_bot {ι : Type} (s : Finset ι) (f : ι → EReal) : s.fold max ⊥ f = s.sup f := rfl

/-- The greatest of a column. -/
theorem topRow_at (P : FVec Ideal S64x1024 .f32) (j : Fin 1024) : topRow P (ix2 0 j) = Finset.univ.sup (col P j) := by
  pointwise [topRow]
  rw [ofBits_bot]
  rfl

theorem ofNat_toInt {n : ℕ} (h : n ≤ 64) : (BitVec.ofNat 32 n).toInt = n := by
  rw [BitVec.toInt_eq_toNat_of_lt] <;> simp only [BitVec.toNat_ofNat] <;> omega

theorem ofNat_inj {a b : Fin 64} : BitVec.ofNat 32 a.val = BitVec.ofNat 32 b.val ↔ a = b := by
  refine ⟨fun h => Fin.ext ?_, fun h => h ▸ rfl⟩
  have := congrArg BitVec.toNat h
  simp only [BitVec.toNat_ofNat] at this
  omega

/-- The signed minimum of two words is below each and is one of them. -/
theorem minsi_spec (a b : BitVec 32) : (IntOp.minsi a b).toInt ≤ a.toInt ∧ (IntOp.minsi a b).toInt ≤ b.toInt ∧ (IntOp.minsi a b = a ∨ IntOp.minsi a b = b) := by
  unfold IntOp.minsi
  split <;> rename_i h <;> simp [BitVec.slt] at h <;> refine ⟨?_, ?_, ?_⟩ <;> first | omega | simp

/-- The fold of the signed minimum is below its start and every term, and is one of them. -/
theorem fold_minsi {ι : Type} [DecidableEq ι] (s : Finset ι) (b : BitVec 32) (f : ι → BitVec 32) :
    (s.fold IntOp.minsi b f).toInt ≤ b.toInt ∧ (∀ i ∈ s, (s.fold IntOp.minsi b f).toInt ≤ (f i).toInt)
      ∧ (s.fold IntOp.minsi b f = b ∨ ∃ i ∈ s, s.fold IntOp.minsi b f = f i) := by
  induction s using Finset.induction_on with
  | empty => simp
  | insert a s ha ih =>
    rw [Finset.fold_insert ha]
    obtain ⟨h1, h2, h3⟩ := ih
    obtain ⟨m1, m2, m3⟩ := minsi_spec (f a) (s.fold IntOp.minsi b f)
    refine ⟨m2.trans h1, ?_, ?_⟩
    · intro i hi
      rcases Finset.mem_insert.mp hi with rfl | hi
      · exact m1
      · exact m2.trans (h2 i hi)
    · rcases m3 with m3 | m3
      · exact Or.inr ⟨a, Finset.mem_insert_self _ _, m3⟩
      · rw [m3]
        rcases h3 with h3 | ⟨i, hi, h3⟩
        · exact Or.inl h3
        · exact Or.inr ⟨i, Finset.mem_insert_of_mem hi, h3⟩

/-- The least row that holds the greatest value, found by a minimum over the rows. -/
theorem min_row (q : Fin 64 → EReal) : Finset.univ.fold IntOp.minsi 2147483647#32
      (fun e : Fin 64 => if q e = Finset.univ.sup q then BitVec.ofNat 32 e.val else 64#32) = BitVec.ofNat 32 (Select.pick (n := 63) q).val := by
  obtain ⟨h1, h2, h3⟩ := fold_minsi Finset.univ 2147483647#32 (fun e : Fin 64 => if q e = Finset.univ.sup q then BitVec.ofNat 32 e.val else 64#32)
  generalize Finset.fold IntOp.minsi 2147483647#32 (fun e : Fin 64 => if q e = Finset.univ.sup q then BitVec.ofNat 32 e.val else 64#32) Finset.univ = r at h1 h2 h3 ⊢
  have hp := h2 (Select.pick (n := 63) q) (Finset.mem_univ _)
  have hq : q (Select.pick (n := 63) q) = Finset.univ.sup q := Select.pick_eq (n := 63) q
  have hlt := (Select.pick (n := 63) q).isLt
  simp only [hq, if_true] at hp
  rw [ofNat_toInt (by omega)] at hp
  rcases h3 with rfl | ⟨i, -, rfl⟩
  · exact absurd hp (by simp; omega)
  · split at hp
    · rename_i hi
      rw [if_pos hi]
      rw [ofNat_toInt (by omega)] at hp
      have := Select.pick_le (n := 63) q i (hi.trans hq.symm)
      rw [Fin.le_def] at this
      congr 1; omega
    · exact absurd hp (by simp)

/-- The first row of a column's greatest. -/
theorem argRow_at (P : FVec Ideal S64x1024 .f32) (j : Fin 1024) : argRow P (ix2 0 j) = BitVec.ofNat 32 (Select.pick (n := 63) (col P j)).val := by
  pointwise [argRow, argVec, isTop]
  rw [topRow_at]
  exact min_row (col P j)

theorem select_eq {α : Type} (a b : BitVec 32) (x y : α) : Scalar.select (IntOp.cmpi .eq a b) x y = if a = b then x else y := by
  unfold Scalar.select IntOp.cmpi
  by_cases h : a = b
  · simp [h]
  · rw [if_neg h, if_neg]
    show ¬BitVec.ofBool (a == b) = 1#1
    rw [beq_eq_false_iff_ne.mpr h]; decide

/-- One round on a column. -/
theorem without_at (P : FVec Ideal S64x1024 .f32) (j : Fin 1024) :
    col (without (argRow P) P) j = Select.drop (n := 63) (col P j) (Select.pick (n := 63) (col P j)) := by
  funext e
  show without (argRow P) P (ix2 e j) = _
  pointwise [without]
  rw [argRow_at, select_eq, ofBits_bot]
  simp only [ofNat_inj]
  rfl

/-- The rounds on a column. -/
theorem work_at (P : FVec Ideal S64x1024 .f32) (j : Fin 1024) : ∀ r : ℕ, col (work P r) j = Select.work (n := 63) (col P j) r
  | 0 => rfl
  | r + 1 => by
    show col (without (argRow (work P r)) (work P r)) j = _
    rw [without_at, work_at P j r]
    rfl

theorem put_at {α : Type} (k : BitVec 32) (row : S1x1024.Idx → α) (acc : S8x1024.Idx → α) (r : Fin 8) (j : Fin 1024) :
    put k row acc (ix2 r j) = if BitVec.ofNat 32 r.val = k then row (ix2 0 j) else acc (ix2 r j) := by
  pointwise [put]
  exact select_eq ..

/-- The slots after `n` rounds hold what the rounds found. -/
theorem vals_at (P : FVec Ideal S64x1024 .f32) (r : Fin 8) (j : Fin 1024) : ∀ n : ℕ, n ≤ 8 → r.val < n → vals P n (ix2 r j) = topRow (work P r.val) (ix2 0 j)
  | 0, _, h => absurd h (by omega)
  | n + 1, hn, h => by
    show put (BitVec.ofNat 32 n) (topRow (work P n)) (vals P n) (ix2 r j) = _
    rw [put_at]
    split
    · rename_i e
      have := congrArg BitVec.toNat e
      simp only [BitVec.toNat_ofNat] at this
      rw [show r.val = n by omega]
    · rename_i e
      exact vals_at P r j n (by omega) (by have : r.val ≠ n := fun h => e (by rw [h]); omega)

theorem idxs_at (P : FVec Ideal S64x1024 .f32) (r : Fin 8) (j : Fin 1024) : ∀ n : ℕ, n ≤ 8 → r.val < n → idxs P n (ix2 r j) = argRow (work P r.val) (ix2 0 j)
  | 0, _, h => absurd h (by omega)
  | n + 1, hn, h => by
    show put (BitVec.ofNat 32 n) (argRow (work P n)) (idxs P n) (ix2 r j) = _
    rw [put_at]
    split
    · rename_i e
      have := congrArg BitVec.toNat e
      simp only [BitVec.toNat_ofNat] at this
      rw [show r.val = n by omega]
    · rename_i e
      exact idxs_at P r j n (by omega) (by have : r.val ≠ n := fun h => e (by rw [h]); omega)

/-- Slot `r`'s expert is the one picked in round `r`. -/
theorem idx_at (P : FVec Ideal S64x1024 .f32) (r : Fin 8) (j : Fin 1024) : idxs P 8 (ix2 r j) = BitVec.ofNat 32 (Select.sel (n := 63) (col P j) r.val).val := by
  rw [idxs_at P r j 8 le_rfl r.isLt, argRow_at, work_at]; rfl

/-- Slot `r`'s value is that expert's probability. -/
theorem val_at (P : FVec Ideal S64x1024 .f32) (r : Fin 8) (j : Fin 1024) (hp : ∀ e, ⊥ < col P j e) :
    vals P 8 (ix2 r j) = col P j (Select.sel (n := 63) (col P j) r.val) := by
  rw [vals_at P r j 8 le_rfl r.isLt, topRow_at, work_at, ← Select.work_sel (n := 63) (col P j) hp r.val (by omega)]
  exact (Select.pick_eq (n := 63) _).symm

end Cert.Column
-- ==== Proof.Stored.lean ====
/-
  What the kernel stores for a block, read at a token: the functions of `Token` at the token's column.
-/
module

public import proofs.«01_k».proof.Proof.Column
public import proofs.«01_k».proof.Proof.Token

@[expose] public section

noncomputable section

namespace Cert.Stored

open Idealize.ShloMosaic Idealize.SL.Sem
open Cert.KernelIdeal Cert.KernelIdeal.Gen Cert.Block Cert.Column Cert.Token

variable (P : FVec Ideal S64x1024 .f32) (j : Fin 1024)

/-- Slot 0 holds the greatest. -/
theorem val_zero : vals P 8 (ix2 0 j) = Finset.univ.sup (col P j) := by
  rw [show (ix2 0 j : S8x1024.Idx) = ix2 (0 : Fin 8) j from rfl, vals_at P 0 j 8 le_rfl (by decide)]
  exact topRow_at P j

/-- The number of experts used. -/
theorem num_at : kOf P (ix2 0 j) = numOf (Finset.univ.sup (col P j)) := by
  pointwise [kOf, k0_pay42]
  rw [val_zero]
  rfl

theorem num_at' : k0_pay42 (vals P 8) (ix2 0 j) = numOf (Finset.univ.sup (col P j)) := num_at P j

/-- The experts. -/
theorem idx_at (r : Fin 8) : idxOf P (ix2 r j) = index (col P j) r.val := by
  pointwise [idxOf, validOf, k0_pay43]
  rw [num_at', Column.idx_at]
  rfl

/-- The weights. -/
theorem wgt_at (hp : ∀ e, ⊥ < col P j e) (r : Fin 8) : wgtOf P (ix2 r j) = weight (col P j) r.val := by
  pointwise [wgtOf, validOf, k0_pay45, k0_pay43]
  simp only [num_at', val_at P _ j hp, sitofp_widened]
  rfl

/-- How many tokens have expert `e` first. -/
theorem cnt_at (e : Fin 64) : cntOf P (ix2 e 0) = ∑ j : Fin 1024, if Select.pick (n := 63) (col P j) = e then (1 : EReal) else 0 := by
  pointwise [cntOf, k0_pay46, pay41_eq]
  refine Finset.sum_congr rfl fun j _ => ?_
  rw [show (ix2 0 j : S8x1024.Idx) = ix2 (0 : Fin 8) j from rfl, Column.idx_at, sitofp_widened, uitofp_eq]
  simp only [ofNat_inj, eq_comm (a := e)]
  rfl

/-- Expert `e`'s probabilities over the block. -/
theorem sum_at (e : Fin 64) : sumOf P (ix2 e 0) = ∑ j : Fin 1024, col P j e := by
  pointwise [sumOf, k0_pay47]
  rfl

/-- The last result from the two sums. -/
theorem aux_at (n p : FVec Ideal S64x1 .f32) :
    k0_pay5 (F := Ideal) n p (ix2 0 0) = ∑ e : Fin 64, n (ix2 e 0) * p (ix2 e 0) * Ideal.ofBits .f32 0x34800000#32 := by
  pointwise [k0_pay5]

/-- The probabilities: the softmax of the token's logits. -/
theorem prob_at (x : FVec Ideal S1024x4096 .f32) (w : FVec Ideal S64x4096 .f32) (e : Fin 64) :
    k0_pay6 (F := Ideal) x w (ix2 e j) = soft (fun a => ∑ k : Fin 4096, x (ix2 j k) * w (ix2 a k)) e := by
  pointwise [k0_pay6]
  rw [ofBits_bot]
  simp only [fold_max_bot, mul_comm (w _)]
  rfl

end Cert.Stored
-- ==== Proof.RefRun.lean ====
/-
  The reference program's run, read back: its host operations as a list, and each of its four results as a function of
  the two arguments, stated over named intermediate values (the probabilities, the number of experts used, the kept
  places, the counts).
-/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The values -/

/-- The logits: the tokens times the transposed expert weights. -/
def logits (x : FVec F S16384x4096 .f32) (w : FVec F S64x4096 .f32) : FVec F S16384x64 .f32 :=
  Host.dotGeneral dot_S16384x4096_S4096x64_S16384x64_1_0_0_1_n_n none x (transpose S4096x64 [1, 0] w transposes_S64x4096_S4096x64_1_0)

/-- The exponentials of the logits less their row's maximum. -/
def expRow (l : FVec F S16384x64 .f32) : FVec F S16384x64 .f32 :=
  Host.exp (subf l (broadcastInDim S16384x64 ![0, 1] bcast_S16384x1_S16384x64_0_1 (broadcastInDim S16384x1 ![0] bcast_S16384_S16384x1_0
    (maximumf (broadcastInDim S16384 ![] bcast_S_S16384 (constant S_ .f32 0xFF800000#32))
      (Host.reduce FloatOps.maximumf l (constant S_ .f32 0xFF800000#32) reducesTo_S16384x64_S16384_d1 h_S_)))))

/-- Each row over its sum. -/
def overSum (e : FVec F S16384x64 .f32) : FVec F S16384x64 .f32 :=
  Host.divf e (broadcastInDim S16384x64 ![0, 1] bcast_S16384x1_S16384x64_0_1 (broadcastInDim S16384x1 ![0] bcast_S16384_S16384x1_0
    (Host.reduceAdd e (constant S_ .f32 0x00000000#32) reducesTo_S16384x64_S16384_d1 h_S_)))

/-- The probabilities: the softmax of the logits along the experts. -/
def probs (x : FVec F S16384x4096 .f32) (w : FVec F S64x4096 .f32) : FVec F S16384x64 .f32 := overSum (expRow (logits x w))

/-- The greatest probability of each token. -/
def top1 (p : FVec F S16384x64 .f32) : FVec F S16384 .f32 :=
  Host.reduce FloatOps.maximumf p (constant S_ .f32 0xFF800000#32) reducesTo_S16384x64_S16384_d1 h_S_

/-- The number of experts used: 1, 2 or 8 by the greatest probability, clipped to [1, 8]. -/
def kUsed (p : FVec F S16384x64 .f32) : IVec S16384 32 :=
  minsi (broadcastInDim S16384 ![] bcast_S_S16384 (id (constantI S_ 32 8#32)))
    (maxsi (broadcastInDim S16384 ![] bcast_S_S16384 (id (constantI S_ 32 1#32)))
      (select (cmpf .oge (top1 p) (broadcastInDim S16384 ![] bcast_S_S16384 (constant S_ .f32 0x3F19999A#32)))
        (broadcastInDim S16384 ![] bcast_S_S16384 (constantI S_ 32 1#32))
        (select (cmpf .oge (top1 p) (broadcastInDim S16384 ![] bcast_S_S16384 (constant S_ .f32 0x3ECCCCCD#32)))
          (broadcastInDim S16384 ![] bcast_S_S16384 (constantI S_ 32 2#32))
          (broadcastInDim S16384 ![] bcast_S_S16384 (constantI S_ 32 8#32)))))

/-- Which of the eight places of each token are used: those below the number of experts used. -/
def valid (k : IVec S16384 32) : IVec S16384x8 1 :=
  cmpi .slt (broadcastInDim S16384x8 ![0, 1] bcast_S1x8_S16384x8_0_1 (broadcastInDim S1x8 ![1] bcast_S8_S1x8_1 (iotaInDim S8 32 0)))
    (broadcastInDim S16384x8 ![0, 1] bcast_S16384x1_S16384x8_0_1 (broadcastInDim S16384x1 ![0] bcast_S16384_S16384x1_0 k))

/-- The eight greatest probabilities of each token. -/
def topVals (p : FVec F S16384x64 .f32) : FVec F S16384x8 .f32 :=
  (Host.topK S16384x8 1 (FloatOps.cmpfTotal .gt) p sliceFits_S16384x64_S16384x8).1

/-- Their experts. -/
def topIdx (p : FVec F S16384x64 .f32) : IVec S16384x8 32 :=
  (Host.topK S16384x8 1 (FloatOps.cmpfTotal .gt) p sliceFits_S16384x64_S16384x8).2

/-- The eight probabilities with the unused places zero. -/
def kept (p : FVec F S16384x64 .f32) : FVec F S16384x8 .f32 := mulf (topVals p) (uitofp .f32 (valid (kUsed p)))

/-- Result 2: the kept probabilities over their sum, which is clipped from below. -/
def weights (p : FVec F S16384x64 .f32) : FVec F S16384x8 .f32 :=
  Host.divf (kept p) (broadcastInDim S16384x8 ![0, 1] bcast_S16384x1_S16384x8_0_1
    (maximumf (broadcastInDim S16384x1 ![] bcast_S_S16384x1 (id (constant S_ .f32 0x3089705F#32)))
      (broadcastInDim S16384x1 ![0] bcast_S16384_S16384x1_0
        (Host.reduceAdd (kept p) (constant S_ .f32 0x00000000#32) reducesTo_S16384x8_S16384_d1 h_S_))))

/-- Result 1: the experts of the used places, -1 at the others. -/
def indices (p : FVec F S16384x64 .f32) : IVec S16384x8 32 :=
  select (valid (kUsed p)) (topIdx p) (broadcastInDim S16384x8 ![] bcast_S_S16384x8 (id (constantI S_ 32 4294967295#32)))

/-- The expert of the greatest probability, by the arg-max. -/
def argTop (p : FVec F S16384x64 .f32) : IVec S16384 32 := fun j =>
  (Host.argReduce reducer_argmax_f32_i32 p (iotaInDim S16384x64 32 1) (constant S_ .f32 0xFF800000#32) (constantI S_ 32 0#32)
    reducesTo_S16384x64_S16384_d1 h_S_ j).2

/-- An expert index as the counting reads it: clipped from below at zero, a negative one wrapped by 64. -/
def binOf (a : IVec S16384 32) : IVec S16384 32 :=
  select (cmpi .slt (maxsi (broadcastInDim S16384 ![] bcast_S_S16384 (id (constantI S_ 32 0#32))) a)
      (broadcastInDim S16384 ![] bcast_S_S16384 (constantI S_ 32 0#32)))
    (addi (maxsi (broadcastInDim S16384 ![] bcast_S_S16384 (id (constantI S_ 32 0#32))) a) (broadcastInDim S16384 ![] bcast_S_S16384 (constantI S_ 32 64#32)))
    (maxsi (broadcastInDim S16384 ![] bcast_S_S16384 (id (constantI S_ 32 0#32))) a)

/-- How many tokens have each expert as their greatest. -/
def counts (a : IVec S16384 32) : IVec S64 32 :=
  Host.scatter scatter_S64_S16384x1_S16384_n_0_0_1 IntOp.addi (broadcastInDim S64 ![] bcast_S_S64 (constantI S_ 32 0#32))
    (broadcastInDim S16384x1 ![0] bcast_S16384_S16384x1_0 (binOf a)) (broadcastInDim S16384 ![] bcast_S_S16384 (constantI S_ 32 1#32))

/-- Result 4: 64 times the sum over the experts of the share of the tokens times the mean probability. -/
def aux (p : FVec F S16384x64 .f32) : FVec F S_ .f32 :=
  mulf (constant S_ .f32 0x42800000#32) (Host.reduceAdd
    (mulf (Host.divf (sitofp .f32 (counts (argTop p))) (broadcastInDim S64 ![] bcast_S_S64 (constant S_ .f32 0x46800000#32)))
      (Host.divf (Host.reduceAdd p (constant S_ .f32 0x00000000#32) reducesTo_S16384x64_S64_d0 h_S_)
        (broadcastInDim S64 ![] bcast_S_S64 (constant S_ .f32 0x46800000#32))))
    (constant S_ .f32 0x00000000#32) reducesTo_S64_S_d0 h_S_)

/-! ## The run -/

/-- The program's host operations, in order, each call's operations in its place. -/
abbrev ops : List (HloOp τ sig (Elt F)) :=
  [ unary main_arg1 main_v0 ((transpose S4096x64 [1, 0] · transposes_S64x4096_S4096x64_1_0) : (⟨S64x4096, .f32⟩ : BufTy).Contents (Elt F) → (⟨S4096x64, .f32⟩ : BufTy).Contents (Elt F)),
    binary main_arg0 main_v0 main_v1 ((fun l r => Host.dotGeneral dot_S16384x4096_S4096x64_S16384x64_1_0_0_1_n_n none l r) : (⟨S16384x4096, .f32⟩ : BufTy).Contents (Elt F) → (⟨S4096x64, .f32⟩ : BufTy).Contents (Elt F) → (⟨S16384x64, .f32⟩ : BufTy).Contents (Elt F)),
    nullary main_cst (constant S_ .f32 0xFF800000#32),
    binary main_v1 main_cst main_v2 ((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_cst_0 (constant S_ .f32 0xFF800000#32),
    unary main_cst_0 main_v3 (broadcastInDim S16384 ![] bcast_S_S16384 : (⟨S_, .f32⟩ : BufTy).Contents (Elt F) → (⟨S16384, .f32⟩ : BufTy).Contents (Elt F)),
    binary main_v3 main_v2 main_v4 (maximumf : (⟨S16384, .f32⟩ : BufTy).Contents (Elt F) → (⟨S16384, .f32⟩ : BufTy).Contents (Elt F) → (⟨S16384, .f32⟩ : BufTy).Contents (Elt F)),
    unary main_v4 main_v5 (broadcastInDim S16384x1 ![0] bcast_S16384_S16384x1_0 : (⟨S16384, .f32⟩ : BufTy).Contents (Elt F) → (⟨S16384x1, .f32⟩ : BufTy).Contents (Elt F)),
    unary main_v5 main_v6 (broadcastInDim S16384x64 ![0, 1] bcast_S16384x1_S16384x64_0_1 : (⟨S16384x1, .f32⟩ : BufTy).Contents (Elt F) → (⟨S16384x64, .f32⟩ : BufTy).Contents (Elt F)),
    binary main_v1 main_v6 main_v7 (subf : (⟨S16384x64, .f32⟩ : BufTy).Contents (Elt F) → (⟨S16384x64, .f32⟩ : BufTy).Contents (Elt F) → (⟨S16384x64, .f32⟩ : BufTy).Contents (Elt F)),
    unary main_v7 main_v8 (Host.exp : (⟨S16384x64, .f32⟩ : BufTy).Contents (Elt F) → (⟨S16384x64, .f32⟩ : BufTy).Contents (Elt F)),
    nullary main_cst_1 (constant S_ .f32 0x00000000#32),
    binary main_v8 main_cst_1 main_v9 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v9 main_v10 (broadcastInDim S16384x1 ![0] bcast_S16384_S16384x1_0 : (⟨S16384, .f32⟩ : BufTy).Contents (Elt F) → (⟨S16384x1, .f32⟩ : BufTy).Contents (Elt F)),
    unary main_v10 main_v11 (broadcastInDim S16384x64 ![0, 1] bcast_S16384x1_S16384x64_0_1 : (⟨S16384x1, .f32⟩ : BufTy).Contents (Elt F) → (⟨S16384x64, .f32⟩ : BufTy).Contents (Elt F)),
    binary main_v8 main_v11 main_v12 (Host.divf : (⟨S16384x64, .f32⟩ : BufTy).Contents (Elt F) → (⟨S16384x64, .f32⟩ : BufTy).Contents (Elt F) → (⟨S16384x64, .f32⟩ : BufTy).Contents (Elt F)),
    nullary main_cst_2 (constant S_ .f32 0xFF800000#32),
    binary main_v12 main_cst_2 main_v13 ((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_c (constantI S_ 32 8#32),
    unary main_c main_v14 (broadcastInDim S16384 ![] bcast_S_S16384 : (⟨S_, .i32⟩ : BufTy).Contents (Elt F) → (⟨S16384, .i32⟩ : BufTy).Contents (Elt F)),
    nullary main_cst_3 (constant S_ .f32 0x3F19999A#32),
    unary main_cst_3 main_v15 (broadcastInDim S16384 ![] bcast_S_S16384 : (⟨S_, .f32⟩ : BufTy).Contents (Elt F) → (⟨S16384, .f32⟩ : BufTy).Contents (Elt F)),
    binary main_v13 main_v15 main_v16 (cmpf .oge : (⟨S16384, .f32⟩ : BufTy).Contents (Elt F) → (⟨S16384, .f32⟩ : BufTy).Contents (Elt F) → (⟨S16384, .i1⟩ : BufTy).Contents (Elt F)),
    nullary main_c_4 (constantI S_ 32 1#32),
    unary main_c_4 main_v17 (broadcastInDim S16384 ![] bcast_S_S16384 : (⟨S_, .i32⟩ : BufTy).Contents (Elt F) → (⟨S16384, .i32⟩ : BufTy).Contents (Elt F)),
    nullary main_cst_5 (constant S_ .f32 0x3ECCCCCD#32),
    unary main_cst_5 main_v18 (broadcastInDim S16384 ![] bcast_S_S16384 : (⟨S_, .f32⟩ : BufTy).Contents (Elt F) → (⟨S16384, .f32⟩ : BufTy).Contents (Elt F)),
    binary main_v13 main_v18 main_v19 (cmpf .oge : (⟨S16384, .f32⟩ : BufTy).Contents (Elt F) → (⟨S16384, .f32⟩ : BufTy).Contents (Elt F) → (⟨S16384, .i1⟩ : BufTy).Contents (Elt F)),
    nullary main_c_6 (constantI S_ 32 2#32),
    unary main_c_6 main_v20 (broadcastInDim S16384 ![] bcast_S_S16384 : (⟨S_, .i32⟩ : BufTy).Contents (Elt F) → (⟨S16384, .i32⟩ : BufTy).Contents (Elt F)),
    TRef.ternary (TRef.of (T := ⟨S16384, .i1⟩) main_v19) (TRef.of (T := ⟨S16384, .i32⟩) main_v20) (TRef.of (T := ⟨S16384, .i32⟩) main_v14) (TRef.of (T := ⟨S16384, .i32⟩) main_v21) select,
    TRef.ternary (TRef.of (T := ⟨S16384, .i1⟩) main_v16) (TRef.of (T := ⟨S16384, .i32⟩) main_v17) (TRef.of (T := ⟨S16384, .i32⟩) main_v21) (TRef.of (T := ⟨S16384, .i32⟩) main_v22) select,
    nullary main_c_7 (constantI S_ 32 1#32),
    nullary main_c_8 (constantI S_ 32 8#32),
    TRef.unary (TRef.of (T := ⟨S_, .i32⟩) main_c_7) (TRef.of (T := ⟨S_, .i32⟩) main_call2_v0) id,
    TRef.unary (TRef.of (T := ⟨S_, .i32⟩) main_call2_v0) (TRef.of (T := ⟨S16384, .i32⟩) main_call2_v1) (broadcastInDim S16384 ![] bcast_S_S16384),
    TRef.binary (TRef.of (T := ⟨S16384, .i32⟩) main_call2_v1) (TRef.of (T := ⟨S16384, .i32⟩) main_v22) (TRef.of (T := ⟨S16384, .i32⟩) main_call2_v2) maxsi,
    TRef.unary (TRef.of (T := ⟨S_, .i32⟩) main_c_8) (TRef.of (T := ⟨S_, .i32⟩) main_call2_v3) id,
    TRef.unary (TRef.of (T := ⟨S_, .i32⟩) main_call2_v3) (TRef.of (T := ⟨S16384, .i32⟩) main_call2_v4) (broadcastInDim S16384 ![] bcast_S_S16384),
    TRef.binary (TRef.of (T := ⟨S16384, .i32⟩) main_call2_v4) (TRef.of (T := ⟨S16384, .i32⟩) main_call2_v2) (TRef.of (T := ⟨S16384, .i32⟩) main_v23) minsi,
    unary main_v12 main_values ((fun x => (Host.topK S16384x8 1 (FloatOps.cmpfTotal .gt) x sliceFits_S16384x64_S16384x8).1) : (⟨S16384x64, .f32⟩ : BufTy).Contents (Elt F) → (⟨S16384x8, .f32⟩ : BufTy).Contents (Elt F)),
    unary main_v12 main_indices ((fun x => (Host.topK S16384x8 1 (FloatOps.cmpfTotal .gt) x sliceFits_S16384x64_S16384x8).2) : (⟨S16384x64, .f32⟩ : BufTy).Contents (Elt F) → (⟨S16384x8, .i32⟩ : BufTy).Contents (Elt F)),
    nullary main_v24 (iotaInDim S8 32 0),
    unary main_v24 main_v25 (broadcastInDim S1x8 ![1] bcast_S8_S1x8_1 : (⟨S8, .i32⟩ : BufTy).Contents (Elt F) → (⟨S1x8, .i32⟩ : BufTy).Contents (Elt F)),
    unary main_v23 main_v26 (broadcastInDim S16384x1 ![0] bcast_S16384_S16384x1_0 : (⟨S16384, .i32⟩ : BufTy).Contents (Elt F) → (⟨S16384x1, .i32⟩ : BufTy).Contents (Elt F)),
    unary main_v25 main_v27 (broadcastInDim S16384x8 ![0, 1] bcast_S1x8_S16384x8_0_1 : (⟨S1x8, .i32⟩ : BufTy).Contents (Elt F) → (⟨S16384x8, .i32⟩ : BufTy).Contents (Elt F)),
    unary main_v26 main_v28 (broadcastInDim S16384x8 ![0, 1] bcast_S16384x1_S16384x8_0_1 : (⟨S16384x1, .i32⟩ : BufTy).Contents (Elt F) → (⟨S16384x8, .i32⟩ : BufTy).Contents (Elt F)),
    binary main_v27 main_v28 main_v29 (cmpi .slt : (⟨S16384x8, .i32⟩ : BufTy).Contents (Elt F) → (⟨S16384x8, .i32⟩ : BufTy).Contents (Elt F) → (⟨S16384x8, .i1⟩ : BufTy).Contents (Elt F)),
    unary main_v29 main_v30 (uitofp .f32 : (⟨S16384x8, .i1⟩ : BufTy).Contents (Elt F) → (⟨S16384x8, .f32⟩ : BufTy).Contents (Elt F)),
    binary main_values main_v30 main_v31 (mulf : (⟨S16384x8, .f32⟩ : BufTy).Contents (Elt F) → (⟨S16384x8, .f32⟩ : BufTy).Contents (Elt F) → (⟨S16384x8, .f32⟩ : BufTy).Contents (Elt F)),
    nullary main_cst_9 (constant S_ .f32 0x00000000#32),
    binary main_v31 main_cst_9 main_v32 ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F)),
    unary main_v32 main_v33 (broadcastInDim S16384x1 ![0] bcast_S16384_S16384x1_0 : (⟨S16384, .f32⟩ : BufTy).Contents (Elt F) → (⟨S16384x1, .f32⟩ : BufTy).Contents (Elt F)),
    nullary main_cst_10 (constant S_ .f32 0x3089705F#32),
    TRef.unary (TRef.of (T := ⟨S_, .f32⟩) main_cst_10) (TRef.of (T := ⟨S_, .f32⟩) main_call3_v0) id,
    TRef.unary (TRef.of (T := ⟨S_, .f32⟩) main_call3_v0) (TRef.of (T := ⟨S16384x1, .f32⟩) main_call3_v1) (broadcastInDim S16384x1 ![] bcast_S_S16384x1),
    TRef.binary (TRef.of (T := ⟨S16384x1, .f32⟩) main_call3_v1) (TRef.of (T := ⟨S16384x1, .f32⟩) main_v33) (TRef.of (T := ⟨S16384x1, .f32⟩) main_v34) maximumf,
    unary main_v34 main_v35 (broadcastInDim S16384x8 ![0, 1] bcast_S16384x1_S16384x8_0_1 : (⟨S16384x1, .f32⟩ : BufTy).Contents (Elt F) → (⟨S16384x8, .f32⟩ : BufTy).Contents (Elt F)),
    binary main_v31 main_v35 main_v36 (Host.divf : (⟨S16384x8, .f32⟩ : BufTy).Contents (Elt F) → (⟨S16384x8, .f32⟩ : BufTy).Contents (Elt F) → (⟨S16384x8, .f32⟩ : BufTy).Contents (Elt F)),
    nullary main_c_11 (constantI S_ 32 4294967295#32),
    TRef.unary (TRef.of (T := ⟨S_, .i32⟩) main_c_11) (TRef.of (T := ⟨S_, .i32⟩) main_call4_v0) id,
    TRef.unary (TRef.of (T := ⟨S_, .i32⟩) main_call4_v0) (TRef.of (T := ⟨S16384x8, .i32⟩) main_call4_v1) (broadcastInDim S16384x8 ![] bcast_S_S16384x8),
    TRef.ternary (TRef.of (T := ⟨S16384x8, .i1⟩) main_v29) (TRef.of (T := ⟨S16384x8, .i32⟩) main_indices) (TRef.of (T := ⟨S16384x8, .i32⟩) main_call4_v1) (TRef.of (T := ⟨S16384x8, .i32⟩) main_v37) select,
    TRef.nullary (TRef.of (T := ⟨S16384x64, .i32⟩) main_call5_v0) (iotaInDim S16384x64 32 1),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S16384x64, .f32⟩) main_v12) (TRef.of (T := ⟨S16384x64, .i32⟩) main_call5_v0) (TRef.of (T := ⟨S_, .f32⟩) main_call5_cst) (TRef.of (T := ⟨S_, .i32⟩) main_call5_c) (TRef.of (T := ⟨S16384, .f32⟩) main_call5_v1_0) (fun x y u v j => (Host.argReduce reducer_argmax_f32_i32 x y u v reducesTo_S16384x64_S16384_d1 h_S_ j).1),
    TRef.quaternary (TRef.of (T := ⟨S16384x64, .f32⟩) main_v12) (TRef.of (T := ⟨S16384x64, .i32⟩) main_call5_v0) (TRef.of (T := ⟨S_, .f32⟩) main_call5_cst) (TRef.of (T := ⟨S_, .i32⟩) main_call5_c) (TRef.of (T := ⟨S16384, .i32⟩) main_v38) (fun x y u v j => (Host.argReduce reducer_argmax_f32_i32 x y u v reducesTo_S16384x64_S16384_d1 h_S_ j).2),
    nullary main_c_12 (constantI S_ 32 0#32),
    unary main_c_12 main_v39 (broadcastInDim S64 ![] bcast_S_S64 : (⟨S_, .i32⟩ : BufTy).Contents (Elt F) → (⟨S64, .i32⟩ : BufTy).Contents (Elt F)),
    nullary main_c_13 (constantI S_ 32 0#32),
    TRef.unary (TRef.of (T := ⟨S_, .i32⟩) main_c_13) (TRef.of (T := ⟨S_, .i32⟩) main_call6_v0) id,
    TRef.unary (TRef.of (T := ⟨S_, .i32⟩) main_call6_v0) (TRef.of (T := ⟨S16384, .i32⟩) main_call6_v1) (broadcastInDim S16384 ![] bcast_S_S16384),
    TRef.binary (TRef.of (T := ⟨S16384, .i32⟩) main_call6_v1) (TRef.of (T := ⟨S16384, .i32⟩) main_v38) (TRef.of (T := ⟨S16384, .i32⟩) main_v40) maxsi,
    nullary main_c_14 (constantI S_ 32 0#32),
    unary main_c_14 main_v41 (broadcastInDim S16384 ![] bcast_S_S16384 : (⟨S_, .i32⟩ : BufTy).Contents (Elt F) → (⟨S16384, .i32⟩ : BufTy).Contents (Elt F)),
    binary main_v40 main_v41 main_v42 (cmpi .slt : (⟨S16384, .i32⟩ : BufTy).Contents (Elt F) → (⟨S16384, .i32⟩ : BufTy).Contents (Elt F) → (⟨S16384, .i1⟩ : BufTy).Contents (Elt F)),
    nullary main_c_15 (constantI S_ 32 64#32),
    unary main_c_15 main_v43 (broadcastInDim S16384 ![] bcast_S_S16384 : (⟨S_, .i32⟩ : BufTy).Contents (Elt F) → (⟨S16384, .i32⟩ : BufTy).Contents (Elt F)),
    binary main_v40 main_v43 main_v44 (addi : (⟨S16384, .i32⟩ : BufTy).Contents (Elt F) → (⟨S16384, .i32⟩ : BufTy).Contents (Elt F) → (⟨S16384, .i32⟩ : BufTy).Contents (Elt F)),
    ternary main_v42 main_v44 main_v40 main_v45 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v45 main_v46 (broadcastInDim S16384x1 ![0] bcast_S16384_S16384x1_0 : (⟨S16384, .i32⟩ : BufTy).Contents (Elt F) → (⟨S16384x1, .i32⟩ : BufTy).Contents (Elt F)),
    nullary main_c_16 (constantI S_ 32 1#32),
    unary main_c_16 main_v47 (broadcastInDim S16384 ![] bcast_S_S16384 : (⟨S_, .i32⟩ : BufTy).Contents (Elt F) → (⟨S16384, .i32⟩ : BufTy).Contents (Elt F)),
    ternary main_v39 main_v46 main_v47 main_v48 ((fun x i u => Host.scatter scatter_S64_S16384x1_S16384_n_0_0_1 IntOp.addi x i u) : (⟨S64, .i32⟩ : BufTy).Contents (Elt F) → (⟨S16384x1, .i32⟩ : BufTy).Contents (Elt F) → (⟨S16384, .i32⟩ : BufTy).Contents (Elt F) → (⟨S64, .i32⟩ : BufTy).Contents (Elt F)),
    unary main_v48 main_v49 (sitofp .f32 : (⟨S64, .i32⟩ : BufTy).Contents (Elt F) → (⟨S64, .f32⟩ : BufTy).Contents (Elt F)),
    nullary main_cst_17 (constant S_ .f32 0x46800000#32),
    unary main_cst_17 main_v50 (broadcastInDim S64 ![] bcast_S_S64 : (⟨S_, .f32⟩ : BufTy).Contents (Elt F) → (⟨S64, .f32⟩ : BufTy).Contents (Elt F)),
    binary main_v49 main_v50 main_v51 (Host.divf : (⟨S64, .f32⟩ : BufTy).Contents (Elt F) → (⟨S64, .f32⟩ : BufTy).Contents (Elt F) → (⟨S64, .f32⟩ : BufTy).Contents (Elt F)),
    nullary main_cst_18 (constant S_ .f32 0x00000000#32),
    binary main_v12 main_cst_18 main_v52 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F)),
    nullary main_cst_19 (constant S_ .f32 0x46800000#32),
    unary main_cst_19 main_v53 (broadcastInDim S64 ![] bcast_S_S64 : (⟨S_, .f32⟩ : BufTy).Contents (Elt F) → (⟨S64, .f32⟩ : BufTy).Contents (Elt F)),
    binary main_v52 main_v53 main_v54 (Host.divf : (⟨S64, .f32⟩ : BufTy).Contents (Elt F) → (⟨S64, .f32⟩ : BufTy).Contents (Elt F) → (⟨S64, .f32⟩ : BufTy).Contents (Elt F)),
    binary main_v51 main_v54 main_v55 (mulf : (⟨S64, .f32⟩ : BufTy).Contents (Elt F) → (⟨S64, .f32⟩ : BufTy).Contents (Elt F) → (⟨S64, .f32⟩ : BufTy).Contents (Elt F)),
    nullary main_cst_20 (constant S_ .f32 0x00000000#32),
    binary main_v55 main_cst_20 main_v56 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_21 (constant S_ .f32 0x42800000#32),
    binary main_cst_21 main_v56 main_v57 (mulf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is its operations in sequence. -/
theorem main_eq (c : Dev nD) : main (F := F) c = seq ops := rfl

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

set_option maxRecDepth 8192 in
/-- Every operation names buffers of the program. -/
theorem ops_sub : (ops : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., nullary_bufs_sub .., unary_bufs_sub .., binary_bufs_sub .., nullary_bufs_sub .., unary_bufs_sub .., nullary_bufs_sub .., unary_bufs_sub .., binary_bufs_sub .., nullary_bufs_sub .., unary_bufs_sub .., ternary_bufs_sub .., ternary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., unary_bufs_sub .., unary_bufs_sub .., unary_bufs_sub .., unary_bufs_sub .., binary_bufs_sub .., unary_bufs_sub .., binary_bufs_sub .., nullary_bufs_sub .., binary_bufs_sub .., unary_bufs_sub .., nullary_bufs_sub .., unary_bufs_sub .., unary_bufs_sub .., binary_bufs_sub .., unary_bufs_sub .., binary_bufs_sub .., nullary_bufs_sub .., unary_bufs_sub .., unary_bufs_sub .., ternary_bufs_sub .., nullary_bufs_sub .., nullary_bufs_sub .., nullary_bufs_sub .., quaternary_bufs_sub .., quaternary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub ..⟩

set_option maxRecDepth 8192 in
set_option maxHeartbeats 40000000 in
/-- Every execution ends with the four results at the values above of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = indices (probs (m ((c.tc : Thread nD τ).loc main_arg0)) (m ((c.tc : Thread nD τ).loc main_arg1)))
      ∧ r.2.mem ((c.tc : Thread nD τ).loc main_v36) = weights (probs (m ((c.tc : Thread nD τ).loc main_arg0)) (m ((c.tc : Thread nD τ).loc main_arg1)))
      ∧ r.2.mem ((c.tc : Thread nD τ).loc main_v23) = kUsed (probs (m ((c.tc : Thread nD τ).loc main_arg0)) (m ((c.tc : Thread nD τ).loc main_arg1)))
      ∧ r.2.mem ((c.tc : Thread nD τ).loc main_v57) = aux (probs (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v37).trans (by simp only [ops, TRef.nullary, TRef.binary, TRef.ternary, TRef.quaternary, TRef.unary, TRef.toBuf, TRef.ofBuf, cast_eq]; after_results_simp <;> rfl),
      (h c main_v36).trans (by simp only [ops, TRef.nullary, TRef.binary, TRef.ternary, TRef.quaternary, TRef.unary, TRef.toBuf, TRef.ofBuf, cast_eq]; after_results_simp <;> rfl),
      (h c main_v23).trans (by simp only [ops, TRef.nullary, TRef.binary, TRef.ternary, TRef.quaternary, TRef.unary, TRef.toBuf, TRef.ofBuf, cast_eq]; after_results_simp <;> rfl),
      (h c main_v57).trans (by simp only [ops, TRef.nullary, TRef.binary, TRef.ternary, TRef.quaternary, TRef.unary, TRef.toBuf, TRef.ofBuf, cast_eq]; after_results_simp <;> rfl),
      (h c main_arg0).trans (by simp only [ops, TRef.nullary, TRef.binary, TRef.ternary, TRef.quaternary, TRef.unary, TRef.toBuf, TRef.ofBuf, cast_eq]; after_results_simp <;> rfl),
      (h c main_arg1).trans (by simp only [ops, TRef.nullary, TRef.binary, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.RefRun

end
-- ==== Proof.RefLogits.lean ====
/-
  The reference's logits read at a token and an expert: the sum of products.
-/
module

public import proofs.«01_k».proof.Proof.RefRun
public import Idealize.ShloMosaic.Lib.Pointwise

@[expose] public section

noncomputable section

namespace Cert.RefLogits

open Idealize.ShloMosaic Idealize.SL.Sem
open Cert.ReferenceIdeal Cert.ReferenceIdeal.Gen Cert.RefRun

/-- The logit of token `n` and expert `e`. -/
theorem logits_at (n : Fin 16384) (x : FVec Ideal S16384x4096 .f32) (w : FVec Ideal S64x4096 .f32) (e : Fin 64) :
    logits x w (ix2 n e) = ∑ k : Fin 4096, x (ix2 n k) * w (ix2 e k) := by
  pointwise [logits]

end Cert.RefLogits
-- ==== Proof.RefTop.lean ====
/-
  The reference's sorted top eight of a token: the picks of the eight rounds, with their values.
-/
module

public import proofs.«01_k».proof.Proof.RefRun
public import proofs.«01_k».proof.Proof.Token

@[expose] public section

noncomputable section

namespace Cert.RefTop

open Idealize.ShloMosaic Idealize.SL.Sem
open Cert.ReferenceIdeal Cert.ReferenceIdeal.Gen Cert.RefRun Cert.Token

variable (P : FVec Ideal S16384x64 .f32) (n : Fin 16384)

/-- The values of token `n`. -/
def row : Fin 64 → EReal := fun e => P (ix2 n e)

/-- Moving along the experts stays on the token. -/
theorem along_at (e k : Fin 64) : (ix2 n e : S16384x64.Idx).along 1 k = ix2 n k := by
  funext a
  match a with
  | ⟨0, _⟩ => rfl
  | ⟨1, _⟩ => rfl

/-- The comparator says when the first value is the greater. -/
theorem greater_eq (a b : EReal) : (FloatOps.cmpfTotal (F := Ideal) (φ := .f32) CmpDirection.gt a b == 1#1) = decide (b < a) := by
  show (BitVec.ofBool (decide (b < a)) == 1#1) = _
  by_cases h : b < a <;> simp [h]

/-- The place `r` of the sorted row holds the pick of round `r`. -/
theorem sorted_at (hp : ∀ e, ⊥ < row P n e) (r : Fin 8) :
    topVals P (ix2 n r) = row P n (expert (row P n) r.val) ∧ topIdx P (ix2 n r) = BitVec.ofNat 32 (expert (row P n) r.val).val := by
  have h : sortedFrom (fun a b : Fin 64 => decide (row P n b < row P n a)) (Fin.castLE (by decide) r) = expert (row P n) r.val :=
    Select.sortedFrom_eq (n := 63) (row P n) hp 8 (by decide) r
  unfold topVals topIdx Host.topK Host.sort2
  dsimp only
  pointwise
  rw [← h]
  simp only [along_at, greater_eq]
  exact ⟨rfl, rfl⟩

end Cert.RefTop
-- ==== Proof.RefSoft.lean ====
/-
  The reference's probabilities read at a token: the softmax of the token's logits.
-/
module

public import proofs.«01_k».proof.Proof.RefLogits
public import proofs.«01_k».proof.Proof.RefTop
public import proofs.«01_k».proof.Proof.Column
public import proofs.«01_k».proof.Proof.Token

@[expose] public section

noncomputable section

namespace Cert.RefSoft

open Idealize.ShloMosaic Idealize.SL.Sem
open Cert.ReferenceIdeal Cert.ReferenceIdeal.Gen Cert.RefRun Cert.Token Cert.RefTop

variable (P : FVec Ideal S16384x64 .f32) (n : Fin 16384)

theorem exp_at (e : Fin 64) : expRow P (ix2 n e) = Ideal.exp (row P n e - Finset.univ.sup (row P n)) := by
  pointwise [expRow]
  rw [Column.ofBits_bot]
  simp only [Column.fold_max_bot, max_bot_left]
  rfl

theorem over_at (e : Fin 64) : overSum P (ix2 n e) = Ideal.div (row P n e) (∑ a, row P n a) := by
  pointwise [overSum]
  rfl

/-- The probabilities of token `n`. -/
theorem probs_at (x : FVec Ideal S16384x4096 .f32) (w : FVec Ideal S64x4096 .f32) :
    row (probs x w) n = soft fun a => ∑ k : Fin 4096, x (ix2 n k) * w (ix2 a k) := by
  have hl : row (logits x w) n = fun a => ∑ k : Fin 4096, x (ix2 n k) * w (ix2 a k) := funext fun a => RefLogits.logits_at n x w a
  funext e
  show overSum (expRow (logits x w)) (ix2 n e) = _
  have he : row (expRow (logits x w)) n = fun a => Ideal.exp (row (logits x w) n a - Finset.univ.sup (row (logits x w) n)) :=
    funext fun a => exp_at (logits x w) n a
  rw [over_at, he, hl]
  rfl

end Cert.RefSoft
-- ==== Proof.RefAt.lean ====
/-
  The reference's other values read at a token, from the token's probabilities.
-/
module

public import proofs.«01_k».proof.Proof.RefTop
public import proofs.«01_k».proof.Proof.Column

@[expose] public section

noncomputable section

namespace Cert.RefAt

open Idealize.ShloMosaic Idealize.SL.Sem
open Cert.ReferenceIdeal Cert.ReferenceIdeal.Gen Cert.RefRun Cert.RefTop Cert.Token

variable (P : FVec Ideal S16384x64 .f32) (n : Fin 16384)

theorem top1_at : top1 P (ix1 n) = Finset.univ.sup (row P n) := by
  pointwise [top1]
  rw [Column.ofBits_bot]
  rfl

/-- The clip to [1, 8] changes none of 1, 2, 8. -/
theorem clip_num (t : EReal) : IntOp.minsi 8#32 (IntOp.maxsi 1#32 (numOf t)) = numOf t := by
  unfold numOf
  split
  · decide
  · split <;> decide

/-- The number of experts used. -/
theorem num_at : kUsed P (ix1 n) = numOf (Finset.univ.sup (row P n)) := by
  pointwise [kUsed]
  rw [top1_at]
  exact clip_num _

theorem valid_at (r : Fin 8) : valid (kUsed P) (ix2 n r) = used (row P n) r.val := by
  pointwise [valid]
  rw [num_at]
  rfl

theorem kept_at (hp : ∀ e, ⊥ < row P n e) (r : Fin 8) : RefRun.kept P (ix2 n r) = Token.kept (row P n) r.val := by
  pointwise [RefRun.kept]
  rw [valid_at, (RefTop.sorted_at P n hp r).1]
  rfl

/-- The weights. -/
theorem wgt_at (hp : ∀ e, ⊥ < row P n e) (r : Fin 8) : weights P (ix2 n r) = weight (row P n) r.val := by
  pointwise [weights]
  simp only [kept_at P n hp]
  rfl

/-- The experts. -/
theorem idx_at (hp : ∀ e, ⊥ < row P n e) (r : Fin 8) : indices P (ix2 n r) = index (row P n) r.val := by
  pointwise [indices]
  rw [valid_at, (RefTop.sorted_at P n hp r).2]
  rfl

end Cert.RefAt
-- ==== Proof.Bridge.lean ====
/-
  The kernel's probabilities, block by block, are the reference's, row by row.
-/
module

public import proofs.«01_k».proof.Proof.KernelRun
public import proofs.«01_k».proof.Proof.Stored
public import proofs.«01_k».proof.Proof.RefSoft
public import proofs.«01_k».proof.Proof.RefAt

@[expose] public section

noncomputable section

namespace Cert.Bridge

open Idealize.ShloMosaic Idealize.ShloMosaic.TcCoe Idealize.SL.Sem
open Cert.KernelIdeal Cert.KernelIdeal.Gen Cert.Sweep Cert.Token Cert.Column

variable (m : (ℓ : Loc nD τ sig) → Buf (Elt Ideal) ℓ) (c : Dev nD)

/-- The tokens, as the kernel is given them. -/
abbrev tokens : FVec Ideal S16384x4096 .f32 := m ((c : Thread nD τ).loc main_arg0)

/-- The experts, as the kernel is given them. -/
abbrev experts : FVec Ideal S64x4096 .f32 := m ((c : Thread nD τ).loc main_arg1)

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

/-- Token `j` of point `t`'s block. -/
def tokenOf (t : Fin cfg0.N) (j : Fin 1024) : Fin 16384 := ⟨1024 * t.val + j.val, by have := lt_of_lt_of_eq t.isLt N_0; omega⟩

theorem tokenOf_at (n : Fin 16384) : tokenOf (pointOf n) (placeOf n) = n := by
  apply Fin.ext
  show 1024 * (n.val / 1024) + n.val % 1024 = n.val
  omega

/-- Point `t`'s block of the tokens. -/
theorem block0_at (t : Fin cfg0.N) (j : Fin 1024) (k : Fin 4096) : iblk m c 0 t (ix2 j k) = tokens m c (ix2 (tokenOf t j) k) := by
  obtain ⟨e0, e1⟩ := index0 t
  show tokens m c (((cfg0.win 0).blk t).view.emb (ix2 j k)) = _
  refine congrArg _ ?_
  funext a; apply Fin.ext
  match a with
  | ⟨0, _⟩ => show win0_0.index t (0 : Fin 2) * 1024 + 1 * j.val = 1024 * t.val + j.val; rw [e0]; omega
  | ⟨1, _⟩ => show win0_0.index t (1 : Fin 2) * 4096 + 1 * k.val = k.val; rw [e1]; omega

/-- Every point's block of the experts is all of them. -/
theorem block1_at (t : Fin cfg0.N) (e : Fin 64) (k : Fin 4096) : iblk m c 1 t (ix2 e k) = experts m c (ix2 e k) := by
  obtain ⟨e0, e1⟩ := index1 t
  show experts m c (((cfg0.win 1).blk t).view.emb (ix2 e k)) = _
  refine congrArg _ ?_
  funext a; apply Fin.ext
  match a with
  | ⟨0, _⟩ => show win0_1.index t (0 : Fin 2) * 64 + 1 * e.val = e.val; rw [e0]; omega
  | ⟨1, _⟩ => show win0_1.index t (1 : Fin 2) * 4096 + 1 * k.val = k.val; rw [e1]; omega

/-- The reference's probabilities of the kernel's arguments. -/
abbrev refProbs : FVec Ideal ReferenceIdeal.S16384x64 .f32 := RefRun.probs (tokens m c) (experts m c)

/-- A column of a block's probabilities is the row of the reference's. -/
theorem col_eq (t : Fin cfg0.N) (j : Fin 1024) : col (prob m c t) j = RefTop.row (refProbs m c) (tokenOf t j) := by
  funext e
  rw [RefSoft.probs_at]
  show k0_pay6 (F := Ideal) (iblk m c 0 t) (iblk m c 1 t) (ix2 e j) = _
  rw [Stored.prob_at]
  simp only [block0_at, block1_at]

end Cert.Bridge
-- ==== Proof.RefArg.lean ====
/-
  The reference's arg-max over the experts, a fold over pairs of a value and its index: it ends at the greatest value and
  the least index that has it, which is the first pick.
-/
module

public import proofs.«01_k».proof.Proof.RefTop
public import proofs.«01_k».proof.Proof.Column

@[expose] public section

noncomputable section

namespace Cert.RefArg

open Idealize.ShloMosaic Idealize.SL.Sem
open Cert.ReferenceIdeal Cert.ReferenceIdeal.Gen Cert.RefRun Cert.RefTop

/-- `q` is the better pair: a greater value, or the same value at an index not greater. -/
def Le (p q : EReal × BitVec 32) : Prop := p.1 < q.1 ∨ (p.1 = q.1 ∧ q.2.toInt ≤ p.2.toInt)

theorem Le.refl (p : EReal × BitVec 32) : Le p p := Or.inr ⟨rfl, le_rfl⟩

theorem Le.trans {p q r : EReal × BitVec 32} (h : Le p q) (k : Le q r) : Le p r := by
  rcases h with h | ⟨h, h'⟩ <;> rcases k with k | ⟨k, k'⟩
  · exact Or.inl (h.trans k)
  · exact Or.inl (k ▸ h)
  · exact Or.inl (h ▸ k)
  · exact Or.inr ⟨h.trans k, k'.trans h'⟩

/-- One step takes one of the two pairs, the better one. -/
theorem step_spec (a b : EReal × BitVec 32) :
    (reducer_argmax_f32_i32 (F := Ideal) a b = a ∨ reducer_argmax_f32_i32 (F := Ideal) a b = b)
      ∧ Le a (reducer_argmax_f32_i32 (F := Ideal) a b) ∧ Le b (reducer_argmax_f32_i32 (F := Ideal) a b) := by
  obtain ⟨x, i⟩ := a
  obtain ⟨y, j⟩ := b
  have e : reducer_argmax_f32_i32 (F := Ideal) (x, i) (y, j)
      = if y < x then (x, i) else if x = y ∧ i.toInt < j.toInt then (y, i) else (y, j) := by
    unfold reducer_argmax_f32_i32
    dsimp only
    simp only [Ideal.cmpf_def, Ideal.cmp]
    by_cases h1 : y < x
    · have hz : ∀ z : BitVec 1, (1#1 : BitVec 1) ||| z = 1#1 := by decide
      simp [h1, Scalar.select, IntOp.ori, hz]
    · by_cases h2 : x = y
      · by_cases h3 : i.toInt < j.toInt
        · simp [h2, h3, Scalar.select, IntOp.ori, IntOp.andi, IntOp.cmpi, BitVec.slt]
        · simp [h2, h3, Scalar.select, IntOp.ori, IntOp.andi, IntOp.cmpi, BitVec.slt]
      · simp [h1, h2, Scalar.select, IntOp.ori, IntOp.andi]
  rw [e]
  split
  · rename_i h
    exact ⟨Or.inl rfl, Le.refl _, Or.inl h⟩
  · rename_i h
    split
    · rename_i h'
      obtain ⟨rfl, h'⟩ := h'
      exact ⟨Or.inl rfl, Le.refl _, Or.inr ⟨rfl, h'.le⟩⟩
    · rename_i h'
      refine ⟨Or.inr rfl, ?_, Le.refl _⟩
      rcases lt_or_eq_of_le (not_lt.mp h) with h | rfl
      · exact Or.inl h
      · exact Or.inr ⟨rfl, not_lt.mp fun g => h' ⟨rfl, g⟩⟩

/-- The fold takes its start or one of the pairs, the best one. -/
theorem fold_spec {ι : Type} (g : ι → EReal × BitVec 32) : ∀ (l : List ι) (i : EReal × BitVec 32),
    (l.foldl (fun r n => reducer_argmax_f32_i32 (F := Ideal) r (g n)) i = i ∨ ∃ n ∈ l, l.foldl (fun r n => reducer_argmax_f32_i32 (F := Ideal) r (g n)) i = g n)
      ∧ Le i (l.foldl (fun r n => reducer_argmax_f32_i32 (F := Ideal) r (g n)) i)
      ∧ ∀ n ∈ l, Le (g n) (l.foldl (fun r n => reducer_argmax_f32_i32 (F := Ideal) r (g n)) i)
  | [], i => ⟨Or.inl rfl, Le.refl i, fun n h => absurd h (by simp)⟩
  | a :: l, i => by
    rw [List.foldl_cons]
    obtain ⟨h1, h2, h3⟩ := fold_spec g l (reducer_argmax_f32_i32 (F := Ideal) i (g a))
    obtain ⟨s1, s2, s3⟩ := step_spec i (g a)
    refine ⟨?_, s2.trans h2, ?_⟩
    · rcases h1 with h1 | ⟨n, hn, h1⟩
      · rw [h1]
        rcases s1 with s1 | s1
        · exact Or.inl s1
        · exact Or.inr ⟨a, List.mem_cons_self, s1⟩
      · exact Or.inr ⟨n, List.mem_cons_of_mem _ hn, h1⟩
    · intro n hn
      rcases List.mem_cons.mp hn with rfl | hn
      · exact s3.trans h2
      · exact h3 n hn

/-- Dropping the experts' coordinate leaves the token's. -/
theorem drop_at (n : Fin 16384) (e : Fin 64) : reducesTo_S16384x64_S16384_d1.drop (ix2 n e) = ix1 n := by
  funext a
  match a with
  | ⟨0, _⟩ => rfl

variable (P : FVec Ideal S16384x64 .f32) (n : Fin 16384)

/-- The arg-max is the first pick. -/
theorem arg_at (hp : ∀ e, ⊥ < row P n e) : argTop P (ix1 n) = BitVec.ofNat 32 (Select.pick (n := 63) (row P n)).val := by
  unfold argTop
  rw [Ideal.argReduce_eq_reduce2]
  unfold Host.reduce2
  obtain ⟨h1, h2, h3⟩ := fold_spec (fun m => (P (S16384x64.rowMajor.symm m), iotaInDim S16384x64 32 1 (S16384x64.rowMajor.symm m)))
    ((List.finRange S16384x64.numel).filter fun m => reducesTo_S16384x64_S16384_d1.drop (S16384x64.rowMajor.symm m) = ix1 n)
    (Ideal.ofBits .f32 0xFF800000#32, 0#32)
  have hmem : ∀ e : Fin 64, S16384x64.rowMajor (ix2 n e) ∈ (List.finRange S16384x64.numel).filter fun m => reducesTo_S16384x64_S16384_d1.drop (S16384x64.rowMajor.symm m) = ix1 n := by
    intro e
    rw [List.mem_filter]
    refine ⟨List.mem_finRange _, ?_⟩
    rw [Equiv.symm_apply_apply, drop_at]
    simp
  change (List.foldl _ (Ideal.ofBits .f32 0xFF800000#32, 0#32) _).2 = _
  generalize List.foldl (fun r m => reducer_argmax_f32_i32 (F := Ideal) r (P (S16384x64.rowMajor.symm m), iotaInDim S16384x64 32 1 (S16384x64.rowMajor.symm m)))
    (Ideal.ofBits .f32 0xFF800000#32, 0#32) ((List.finRange S16384x64.numel).filter fun m => reducesTo_S16384x64_S16384_d1.drop (S16384x64.rowMajor.symm m) = ix1 n) = r at h1 h2 h3 ⊢
  have hle : ∀ e : Fin 64, Le (row P n e, BitVec.ofNat 32 e.val) r := fun e => by
    have := h3 _ (hmem e)
    rw [Equiv.symm_apply_apply] at this
    exact this
  have hr : ∃ e : Fin 64, r = (row P n e, BitVec.ofNat 32 e.val) := by
    rcases h1 with h1 | ⟨m, hm, h1⟩
    · exfalso
      have h := hle 0
      rw [h1, Column.ofBits_bot] at h
      rcases h with h | ⟨h, -⟩
      · exact absurd h not_lt_bot
      · exact absurd (hp 0) (by rw [show row P n 0 = ⊥ from h]; exact lt_irrefl _)
    · rw [List.mem_filter] at hm
      have hd := of_decide_eq_true hm.2
      generalize S16384x64.rowMajor.symm m = q at h1 hd
      obtain ⟨a, b, rfl⟩ : ∃ (a : Fin 16384) (b : Fin 64), q = ix2 a b := ⟨q 0, q 1, eq_ix2 q⟩
      rw [drop_at] at hd
      have ha : a = n := congrFun hd 0
      subst ha
      exact ⟨b, h1⟩
  obtain ⟨e, rfl⟩ := hr
  have he : e = Select.pick (n := 63) (row P n) := Select.eq_pick (n := 63) (row P n) e fun i => by
    rcases hle i with h | ⟨h, h'⟩
    · exact Or.inl h
    · refine Or.inr ⟨h, ?_⟩
      have h' : (BitVec.ofNat 32 e.val).toInt ≤ (BitVec.ofNat 32 i.val).toInt := h'
      rw [Column.ofNat_toInt (by omega), Column.ofNat_toInt (by omega)] at h'
      rw [Fin.le_def]; omega
  rw [← he]

end Cert.RefArg
-- ==== Proof.RefCount.lean ====
/-
  The reference's counts: scattering a one per token into the bin its arg-max names leaves in every bin the number of
  the tokens that name it.
-/
module

public import proofs.«01_k».proof.Proof.RefTop
public import proofs.«01_k».proof.Proof.Column
public import Idealize.ShloMosaic.Lib.Routing.Ops
public import Idealize.ShloMosaic.Lib.Routing.OpsPair

@[expose] public section

noncomputable section

namespace Cert.RefCount

open Idealize.ShloMosaic Idealize.SL.Sem
open Cert.ReferenceIdeal Cert.ReferenceIdeal.Gen Cert.RefRun Cert.RefTop

/-- An index that is an expert's is left as it is. -/
theorem bin_at (a : IVec S16384 32) (n : Fin 16384) (e : Fin 64) (h : a (ix1 n) = BitVec.ofNat 32 e.val) :
    binOf a (ix1 n) = BitVec.ofNat 32 e.val := by
  have k : binOf a (ix1 n) = Scalar.select (IntOp.cmpi .slt (IntOp.maxsi (0#32) (a (ix1 n))) 0#32)
      (IntOp.addi (IntOp.maxsi (0#32) (a (ix1 n))) 64#32) (IntOp.maxsi (0#32) (a (ix1 n))) := by
    pointwise [binOf]
    rfl
  rw [k, h]
  clear h k
  revert e
  decide

/-- The scatter writes token `n`'s one at the bin its index names. -/
theorem lands (idx : IVec S16384x1 32) (n : Fin 16384) (e : Fin 64) :
    scatter_S64_S16384x1_S16384_n_0_0_1.resultIdx? (ix1 n) idx = some (ix1 e)
      ↔ (idx (ix2 n 0)).toInt = (e.val : Int) := by
  refine (Routing.resultIdx?_ix1 _ _ _ _).trans ?_
  have hw : scatter_S64_S16384x1_S16384_n_0_0_1.window (ix1 n) 0 = 0 := rfl
  have hs : scatter_S64_S16384x1_S16384_n_0_0_1.start (ix1 n) idx 0 = (idx (ix2 n 0)).toInt := by
    unfold ScatterDims.start
    rw [dif_pos (by decide)]
    congr 2
    funext b
    match b with
    | ⟨0, _⟩ => rfl
    | ⟨1, _⟩ => rfl
  rw [hw, hs]
  simp

/-- Counting along the list of all positions is the size of the set. -/
theorem countP_card {N M : ℕ} (h : M = N) (p : Fin N → Prop) [DecidablePred p] :
    (List.finRange M).countP (fun n => decide (p (n.cast h))) = (Finset.univ.filter p).card := by
  subst h
  rw [List.countP_eq_length_filter]
  rfl

variable (a : IVec S16384 32) (q : Fin 16384 → Fin 64)

/-- Each bin counts the tokens whose index is it. -/
theorem counts_at (h : ∀ n, a (ix1 n) = BitVec.ofNat 32 (q n).val) (e : Fin 64) :
    counts a (ix1 e) = BitVec.ofNat 32 (Finset.univ.filter fun n => q n = e).card := by
  have hidx : ∀ n : Fin 16384, ((broadcastInDim S16384x1 ![0] bcast_S16384_S16384x1_0 (binOf a)) (ix2 n 0)).toInt = ((q n).val : Int) := fun n => by
    have k : (broadcastInDim S16384x1 ![0] bcast_S16384_S16384x1_0 (binOf a)) (ix2 n 0) = binOf a (ix1 n) := by pointwise []
    rw [k, bin_at a n (q n) (h n), Column.ofNat_toInt (by omega)]
  unfold counts
  generalize broadcastInDim S16384x1 ![0] bcast_S16384_S16384x1_0 (binOf a) = idx at hidx ⊢
  unfold Host.scatter
  refine (Routing.foldl_count _ (ix1 e) (fun n => decide (q (n.cast (Routing.numel1 16384)) = e)) (fun r n => ?_) _ _ 0 rfl).trans ?_
  · rw [show S16384.rowMajor.symm n = ix1 (n.cast (Routing.numel1 16384)) from Routing.symm1 (N := 16384) n]
    generalize n.cast (Routing.numel1 16384) = n'
    have hi := lands idx n' e
    rw [hidx n'] at hi
    generalize scatter_S64_S16384x1_S16384_n_0_0_1.resultIdx? (ix1 n') idx = o at hi ⊢
    have hq : ((q n').val : Int) = (e.val : Int) ↔ q n' = e := by rw [Fin.ext_iff]; omega
    rw [hq] at hi
    cases o with
    | none =>
      have hn : ¬ q n' = e := fun g => by have := hi.2 g; cases this
      simp [hn]
    | some k =>
      dsimp only
      by_cases hk : ix1 e = k
      · subst hk
        have g : q n' = e := hi.1 rfl
        rw [if_pos rfl, g]
        simp
        rfl
      · have g : ¬ q n' = e := fun g => hk (Option.some.inj (hi.2 g)).symm
        rw [if_neg hk]
        simp [g]
  · rw [countP_card (Routing.numel1 16384) (fun n => q n = e), Nat.zero_add]

/-- As a number, the count is the sum over the tokens of a one for each in the bin. -/
theorem number_at (h : ∀ n, a (ix1 n) = BitVec.ofNat 32 (q n).val) (e : Fin 64) :
    FloatOps.sitofp (F := Ideal) .f32 (counts a (ix1 e)) = (((∑ n : Fin 16384, if q n = e then (1 : ℝ) else 0) : ℝ) : EReal) := by
  rw [counts_at a q h e, Finset.sum_boole]
  have hc : (Finset.univ.filter fun n => q n = e).card ≤ 16384 := (Finset.card_le_univ _).trans (Fintype.card_fin _).le
  generalize (Finset.univ.filter fun n => q n = e).card = k at hc ⊢
  show (((BitVec.ofNat 32 k).toInt : ℝ) : EReal) = _
  rw [BitVec.toInt_eq_toNat_of_lt (by rw [BitVec.toNat_ofNat]; omega), BitVec.toNat_ofNat, Nat.mod_eq_of_lt (by omega)]
  rw [Int.cast_natCast]

end Cert.RefCount
-- ==== Proof.RefAux.lean ====
/-
  The reference's load-balancing number, read from real probabilities: a real number.
-/
module

public import proofs.«01_k».proof.Proof.RefArg
public import proofs.«01_k».proof.Proof.RefCount
public import proofs.«01_k».proof.Proof.Finite

@[expose] public section

noncomputable section

namespace Cert.RefAux

open Idealize.ShloMosaic Idealize.SL.Sem
open Cert.ReferenceIdeal Cert.ReferenceIdeal.Gen Cert.RefRun Cert.RefTop

/-- The word of 16384. -/
theorem ofBits_16384 : Ideal.ofBits .f32 0x46800000#32 = ((16384 : ℝ) : EReal) := by
  simp [Ideal.ofBits, Ideal.ieee, -EReal.coe_mul]; norm_num

/-- The word of 64. -/
theorem ofBits_64 : Ideal.ofBits .f32 0x42800000#32 = ((64 : ℝ) : EReal) := by
  simp [Ideal.ofBits, Ideal.ieee, -EReal.coe_mul]; norm_num

/-- The word of 2⁻²². -/
theorem ofBits_tiny : Ideal.ofBits .f32 0x34800000#32 = ((1 / 4194304 : ℝ) : EReal) := by
  simp [Ideal.ofBits, Ideal.ieee, -EReal.coe_mul]; norm_num

/-- The program's last result, read at its one entry. -/
theorem aux_read (P : FVec Ideal S16384x64 .f32) : aux P ix0 = Ideal.ofBits .f32 0x42800000#32 *
    ∑ x : Fin 64, Ideal.div (FloatOps.sitofp (F := Ideal) .f32 (counts (argTop P) (ix1 x))) (Ideal.ofBits .f32 0x46800000#32)
      * Ideal.div (∑ y : Fin 16384, P (ix2 y x)) (Ideal.ofBits .f32 0x46800000#32) := by
  pointwise [aux]

variable (P : FVec Ideal S16384x64 .f32) (q : Fin 16384 → Fin 64 → ℝ)

/-- From real, positive probabilities. -/
theorem aux_at (h : ∀ n e, row P n e = ((q n e : ℝ) : EReal)) (hq : ∀ n e, 0 < q n e) :
    aux P ix0 = ((64 * ∑ e : Fin 64, (∑ n : Fin 16384, if Select.pick (n := 63) (row P n) = e then (1 : ℝ) else 0) * (1 / 16384) * ((∑ n : Fin 16384, q n e) * (1 / 16384)) : ℝ) : EReal) := by
  have hp : ∀ n e, ⊥ < row P n e := fun n e => by rw [h]; exact EReal.bot_lt_coe _
  rw [aux_read, ofBits_64, ofBits_16384, EReal.coe_mul, ← Finite.coe_sum]
  refine congrArg _ (Finset.sum_congr rfl fun e _ => ?_)
  rw [RefCount.number_at (argTop P) (fun n => Select.pick (n := 63) (row P n)) (fun n => RefArg.arg_at P n (hp n)) e]
  rw [Finset.sum_congr rfl fun (n : Fin 16384) _ => show P (ix2 n e) = ((q n e : ℝ) : EReal) from h n e]
  rw [Finite.coe_sum, Ideal.div_coe (by norm_num), Ideal.div_coe (by norm_num), EReal.coe_mul, EReal.coe_mul, EReal.coe_mul]

end Cert.RefAux
-- ==== Proof.Results.lean ====
/-
  The kernel's four results are the reference's, for real arguments.
-/
module

public import proofs.«01_k».proof.Proof.Bridge
public import proofs.«01_k».proof.Proof.RefAux

@[expose] public section

noncomputable section

namespace Cert.Results

open Idealize.ShloMosaic Idealize.ShloMosaic.TcCoe Idealize.SL.Sem
open Cert.KernelIdeal Cert.KernelIdeal.Gen Cert.Sweep Cert.Token Cert.Column Cert.Bridge

variable (m : (ℓ : Loc nD τ sig) → Buf (Elt Ideal) ℓ) (c : Dev nD)

/-- The kernel's arguments are real numbers. -/
def Real : Prop := (∀ i, ∃ r : ℝ, tokens m c i = (r : EReal)) ∧ ∀ i, ∃ r : ℝ, experts m c i = (r : EReal)

/-- Then every probability is a positive real. -/
theorem probs_real (h : Real m c) (n : Fin 16384) (e : Fin 64) : ∃ r : ℝ, 0 < r ∧ RefTop.row (refProbs m c) n e = (r : EReal) := by
  rw [RefSoft.probs_at]
  exact Finite.soft_real _ (fun a => Finite.real_dot _ _ (fun k => h.1 _) (fun k => h.2 _)) e

theorem probs_bot (h : Real m c) (n : Fin 16384) (e : Fin 64) : ⊥ < RefTop.row (refProbs m c) n e := by
  obtain ⟨r, -, hr⟩ := probs_real m c h n e
  rw [hr]
  exact EReal.bot_lt_coe r

/-- The column the kernel reads for token `n`. -/
theorem col_of (n : Fin 16384) : col (prob m c (pointOf n)) (placeOf n) = RefTop.row (refProbs m c) n := by
  rw [col_eq, tokenOf_at]

/-- Result 1, the experts. -/
theorem idx_eq (h : Real m c) : transpose S16384x8 [1, 0] (idxArr m c) transposes_S8x16384_S16384x8_1_0 = RefRun.indices (refProbs m c) := by
  funext i
  obtain ⟨n, r, rfl⟩ : ∃ (n : Fin 16384) (r : Fin 8), i = ix2 n r := ⟨i 0, i 1, eq_ix2 i⟩
  have e : transpose S16384x8 [1, 0] (idxArr m c) transposes_S8x16384_S16384x8_1_0 (ix2 n r) = idxArr m c (ix2 r n) := by pointwise []
  rw [e, RefAt.idx_at _ _ (probs_bot m c h n)]
  show Block.idxOf (F := Ideal) (prob m c (pointOf n)) (ix2 r (placeOf n)) = _
  rw [Stored.idx_at, col_of]

/-- Result 2, the weights. -/
theorem wgt_eq (h : Real m c) : transpose S16384x8 [1, 0] (wgtArr m c) transposes_S8x16384_S16384x8_1_0 = RefRun.weights (refProbs m c) := by
  funext i
  obtain ⟨n, r, rfl⟩ : ∃ (n : Fin 16384) (r : Fin 8), i = ix2 n r := ⟨i 0, i 1, eq_ix2 i⟩
  have e : transpose S16384x8 [1, 0] (wgtArr m c) transposes_S8x16384_S16384x8_1_0 (ix2 n r) = wgtArr m c (ix2 r n) := by pointwise []
  rw [e, RefAt.wgt_at _ _ (probs_bot m c h n)]
  show Block.wgtOf (F := Ideal) (prob m c (pointOf n)) (ix2 r (placeOf n)) = _
  rw [Stored.wgt_at _ _ (by rw [col_of]; exact probs_bot m c h n), col_of]

/-- Result 3, the number of experts used. -/
theorem num_eq : shapeCast S16384 (numArr m c) shapeCasts_S1x16384_S16384 = RefRun.kUsed (refProbs m c) := by
  funext i
  obtain ⟨n, rfl⟩ : ∃ n : Fin 16384, i = ix1 n := ⟨i 0, eq_ix1 i⟩
  have e : shapeCast S16384 (numArr m c) shapeCasts_S1x16384_S16384 (ix1 n) = numArr m c (ix2 0 n) :=
    shapeCast_apply _ _ _ _ (((Shape.rowMajor_val_two (d := ![1, 16384]) (ix2 0 n)).trans
      (by show 0 * 16384 + n.val = n.val; omega)).trans (Shape.rowMajor_val_one (d := ![16384]) (ix1 n)).symm)
  rw [e, RefAt.num_at]
  show Block.kOf (F := Ideal) (prob m c (pointOf n)) (ix2 0 (placeOf n)) = _
  rw [Stored.num_at, col_of]

/-- A running sum over the blocks of a real number for each token is the sum over all the tokens. -/
theorem running (g : Fin 16384 → ℝ) (a : (n : ℕ) → n < cfg0.N → EReal) (b : Fin cfg0.N → EReal)
    (h0 : ∀ h, a 0 h = b ⟨0, h⟩) (hs : ∀ n h, a (n + 1) h = a n (Nat.lt_of_succ_lt h) + b ⟨n + 1, h⟩)
    (hb : ∀ t, b t = ((∑ j : Fin 1024, g (tokenOf t j) : ℝ) : EReal)) : a 15 last.isLt = ((∑ n, g n : ℝ) : EReal) := by
  let f : ℕ → ℝ := fun k => if h : k < 16384 then g ⟨k, h⟩ else 0
  have hb' : ∀ t : Fin cfg0.N, b t = ((∑ j ∈ Finset.range 1024, f (1024 * t.val + j) : ℝ) : EReal) := fun t => by
    rw [hb, Finset.sum_range]
    refine congrArg _ (Finset.sum_congr rfl fun j _ => ?_)
    have ht := lt_of_lt_of_eq t.isLt N_0
    show g (tokenOf t j) = if h : 1024 * t.val + j.val < 16384 then g ⟨1024 * t.val + j.val, h⟩ else 0
    rw [dif_pos (show 1024 * t.val + j.val < 16384 by omega)]
    rfl
  have ha : ∀ (n : ℕ) (h : n < cfg0.N), a n h = ((∑ k ∈ Finset.range (1024 * n + 1024), f k : ℝ) : EReal) := by
    intro n
    induction n with
    | zero =>
      intro h
      rw [h0, hb']
      simp
    | succ n ih =>
      intro h
      rw [hs, ih, hb', ← EReal.coe_add, Finset.sum_range_add f (1024 * (n + 1)) 1024]
      rfl
  refine (ha 15 last.isLt).trans ?_
  rw [Finset.sum_range]
  refine congrArg _ (Finset.sum_congr rfl fun n _ => ?_)
  exact dif_pos n.isLt

/-- Result 4, the load-balancing number. -/
theorem aux_eq (h : Real m c) : shapeCast S_ (auxArr m c) shapeCasts_S1x1_S_ = RefRun.aux (refProbs m c) := by
  choose q hq0 hq using probs_real m c h
  funext i
  obtain rfl : i = ix0 := funext fun a => a.elim0
  have e : shapeCast S_ (auxArr m c) shapeCasts_S1x1_S_ ix0 = auxArr m c (ix2 0 0) := by pointwise []
  rw [e, RefAux.aux_at _ q hq hq0]
  show k0_pay5 (F := Ideal) (cntAt m c 15 last.isLt) (sumAt m c 15 last.isLt) (ix2 0 0) = _
  rw [Stored.aux_at, RefAux.ofBits_tiny]
  have hc : ∀ e : Fin 64, cntAt m c 15 last.isLt (ix2 e 0)
      = ((∑ n : Fin 16384, (if Select.pick (n := 63) (RefTop.row (refProbs m c) n) = e then (1 : ℝ) else 0) : ℝ) : EReal) := fun e =>
    running (fun n => if Select.pick (n := 63) (RefTop.row (refProbs m c) n) = e then (1 : ℝ) else 0)
      (fun n h => cntAt m c n h (ix2 e 0)) (fun t => Block.cntOf (F := Ideal) (prob m c t) (ix2 e 0)) (fun _ => rfl) (fun _ _ => rfl) fun t => by
        rw [Stored.cnt_at, ← Finite.coe_sum]
        refine Finset.sum_congr rfl fun j _ => ?_
        rw [col_eq]
        split <;> simp
  have hs : ∀ e : Fin 64, sumAt m c 15 last.isLt (ix2 e 0) = ((∑ n : Fin 16384, q n e : ℝ) : EReal) := fun e =>
    running (fun n => q n e)
      (fun n h => sumAt m c n h (ix2 e 0)) (fun t => Block.sumOf (F := Ideal) (prob m c t) (ix2 e 0)) (fun _ => rfl) (fun _ _ => rfl) fun t => by
        rw [Stored.sum_at, ← Finite.coe_sum]
        refine Finset.sum_congr rfl fun j _ => ?_
        rw [col_eq, hq]
  rw [Finset.mul_sum, ← Finite.coe_sum]
  refine Finset.sum_congr rfl fun e _ => ?_
  rw [hc, hs, ← EReal.coe_mul, ← EReal.coe_mul]
  refine congrArg _ ?_
  ring

end Cert.Results
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Given
public import proofs.«01_k».proof.Proof.Results
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run ends with the arguments unchanged, and it has no semaphores. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0 :=
  (θ_run _ _ _).mono (fun r h => ⟨fun c => (h c).2.2.2.2, sem_eq_zero_of_no_sems (by decide) r.2⟩) (RefRun.run m g)

/-- Under the precondition every argument entry is a real number. -/
theorem real_args [Cert.Pre_finite_inputs.Facts] (m : (ℓ : Loc KernelIdeal.nD KernelIdeal.τ KernelIdeal.sig) → Buf (Elt Ideal) ℓ) (h : Pre_KernelIdeal_finite_inputs m)
    (c : Dev KernelIdeal.nD) : Results.Real m c :=
  Given.real_of_pre _ _ (h c).1 (h c).2

/-- Everything claimed. -/
theorem claim : Cert.Claim := ⟨Cert.Kernel.Gen.facts, Cert.KernelIdeal.Gen.facts, Cert.ReferenceIdeal.Gen.facts, Given.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  fun m g m' g' hpre hargs => by
    refine ⟨fun c => RefRun.indices (Bridge.refProbs m c), fun c => RefRun.weights (Bridge.refProbs m c),
      fun c => RefRun.kUsed (Bridge.refProbs m c), fun c => RefRun.aux (Bridge.refProbs m c), ?_, ?_⟩
    · refine (θ_run _ _ _).mono (fun r h c => ?_) (KernelRun.run m g)
      obtain ⟨h1, h2, h3, h4, h5, h6⟩ := h c
      have hr := @real_args Given.facts m hpre c
      exact ⟨h1.trans (Results.idx_eq m c hr), h2.trans (Results.wgt_eq m c hr), h3.trans (Results.num_eq m c), h4.trans (Results.aux_eq m c hr), h5, h6⟩
    · refine (θ_run _ _ _).mono (fun r h c => ?_) (RefRun.run m' g')
      obtain ⟨h1, h2, h3, h4, h5, h6⟩ := h c
      obtain ⟨e0, e1⟩ := hargs c
      rw [e0, e1] at h1 h2 h3 h4
      exact ⟨h1, h2, h3, h4, h5, h6⟩⟩

end Cert.Proof

end
